-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8x100000 : Shape := ⟨3, ![64, 8, 100000]⟩
abbrev S100000 : Shape := ⟨1, ![100000]⟩
abbrev S64x8x1x100000 : Shape := ⟨4, ![64, 8, 1, 100000]⟩
abbrev S1x100000 : Shape := ⟨2, ![1, 100000]⟩
abbrev S64x100000 : Shape := ⟨2, ![64, 100000]⟩
abbrev S64x128 : Shape := ⟨2, ![64, 128]⟩
abbrev S64x1x1x2048 : Shape := ⟨4, ![64, 1, 1, 2048]⟩
abbrev S1x2048 : Shape := ⟨2, ![1, 2048]⟩
abbrev S64x2048 : Shape := ⟨2, ![64, 2048]⟩
abbrev S2048 : Shape := ⟨1, ![2048]⟩
abbrev S64 : Shape := ⟨1, ![64]⟩
abbrev S64x1 : Shape := ⟨2, ![64, 1]⟩

abbrev nBuf : Space → Nat
  | .hbm => 8
  | .vmem => 9
  | .smem => 0
  | _ => 0

abbrev bufTy : (tb : Table) → Fin (tcTables nBuf tb) → BufTy
  | .hbm, ⟨0, _⟩ => ⟨S64x8x100000, .f32⟩
  | .hbm, ⟨1, _⟩ => ⟨S100000, .f32⟩
  | .hbm, ⟨2, _⟩ => ⟨S64x8x1x100000, .f32⟩
  | .hbm, ⟨3, _⟩ => ⟨S1x100000, .f32⟩
  | .hbm, ⟨4, _⟩ => ⟨S64x100000, .f32⟩
  | .hbm, ⟨5, _⟩ => ⟨S64x128, .i32⟩
  | .hbm, ⟨6, _⟩ => ⟨S64x1, .i32⟩
  | .hbm, ⟨7, _⟩ => ⟨S64, .i32⟩
  | .local _ .vmem, ⟨0, _⟩ => ⟨S64x1x1x2048, .f32⟩
  | .local _ .vmem, ⟨1, _⟩ => ⟨S64x1x1x2048, .f32⟩
  | .local _ .vmem, ⟨2, _⟩ => ⟨S1x2048, .f32⟩
  | .local _ .vmem, ⟨3, _⟩ => ⟨S1x2048, .f32⟩
  | .local _ .vmem, ⟨4, _⟩ => ⟨S64x2048, .f32⟩
  | .local _ .vmem, ⟨5, _⟩ => ⟨S64x2048, .f32⟩
  | .local _ .vmem, ⟨6, _⟩ => ⟨S64x128, .i32⟩
  | .local _ .vmem, ⟨7, _⟩ => ⟨S64x128, .f32⟩
  | .local _ .vmem, ⟨8, _⟩ => ⟨S64x128, .i32⟩
  | _, _ => ⟨S64x8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![49], ![false]⟩

def k0_cond3 (i : grid0.Coords) : BitVec 1 :=
  let arg0 : BitVec 32 := BitVec.ofNat 32 (i 0).val
  let c48_i32 : BitVec 32 := 48#32
  let v220 : BitVec 1 := Scalar.cmpi .eq arg0 c48_i32
  let v221 : BitVec 32 := Scalar.extui v220
  let c0_i32_52 : BitVec 32 := 0#32
  let v222 : BitVec 1 := Scalar.cmpi .ne v221 c0_i32_52
  v222

def cc0_transform_0 (i : grid0.Coords) : Fin 4 → Nat :=
  let arg0 : BitVec 32 := BitVec.ofNat 32 (i 0).val
  let c0_i32 : BitVec 32 := 0#32
  let c7_i32 : BitVec 32 := 7#32
  let c0_i32_0 : BitVec 32 := 0#32
  let c0_i32_1 : BitVec 32 := 0#32
  ![c0_i32.toNat, c7_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S64x8x100000 : Shape := ⟨3, ![64, 8, 100000]⟩
abbrev S100000 : Shape := ⟨1, ![100000]⟩
abbrev S64x1x100000 : Shape := ⟨3, ![64, 1, 100000]⟩
abbrev S64x100000 : Shape := ⟨2, ![64, 100000]⟩
abbrev S_ : Shape := ⟨0, ![]⟩
abbrev S1x100000 : Shape := ⟨2, ![1, 100000]⟩
abbrev S1 : Shape := ⟨1, ![1]⟩
abbrev S2 : Shape := ⟨1, ![2]⟩
abbrev S1x1 : Shape := ⟨2, ![1, 1]⟩
abbrev S64 : Shape := ⟨1, ![64]⟩

abbrev nBuf : Space → Nat
  | .hbm => 297
  | .vmem => 0
  | .smem => 0
  | _ => 0

abbrev hbmTy0_0 (i : Nat) : BufTy := match i % 128 with
  | 0 => ⟨S64x8x100000, .f32⟩
  | 1 => ⟨S100000, .f32⟩
  | 2 => ⟨S64x1x100000, .f32⟩
  | 3 => ⟨S64x100000, .f32⟩
  | 4 => ⟨S_, .f32⟩
  | 5 => ⟨S64x100000, .f32⟩
  | 6 => ⟨S64x100000, .f32⟩
  | 7 => ⟨S1x100000, .f32⟩
  | 8 => ⟨S64x100000, .f32⟩
  | 9 => ⟨S64x100000, .f32⟩
  | 10 => ⟨S_, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S_, .i32⟩
  | 18 => ⟨S1, .i32⟩
  | 19 => ⟨S2, .i32⟩
  | 20 => ⟨S_, .f32⟩
  | 21 => ⟨S_, .f32⟩
  | 22 => ⟨S_, .f32⟩
  | 23 => ⟨S_, .f32⟩
  | 24 => ⟨S1x1, .f32⟩
  | 25 => ⟨S1x1, .f32⟩
  | 26 => ⟨S1, .i32⟩
  | 27 => ⟨S_, .i32⟩
  | 28 => ⟨S1, .i32⟩
  | 29 => ⟨S_, .i32⟩
  | 30 => ⟨S64x100000, .i64⟩
  | 31 => ⟨S64x100000, .i64⟩
  | 32 => ⟨S_, .i64⟩
  | 33 => ⟨S64x100000, .i64⟩
  | 34 => ⟨S64x100000, .i64⟩
  | 35 => ⟨S_, .i64⟩
  | 36 => ⟨S64x100000, .i64⟩
  | 37 => ⟨S64x100000, .i64⟩
  | 38 => ⟨S64x100000, .i64⟩
  | 39 => ⟨S_, .i64⟩
  | 40 => ⟨S64x100000, .i64⟩
  | 41 => ⟨S64x100000, .i64⟩
  | 42 => ⟨S64x100000, .i32⟩
  | 43 => ⟨S64x100000, .i32⟩
  | 44 => ⟨S_, .i32⟩
  | 45 => ⟨S_, .i32⟩
  | 46 => ⟨S_, .i32⟩
  | 47 => ⟨S64x100000, .i32⟩
  | 48 => ⟨S64x100000, .i32⟩
  | 49 => ⟨S64x100000, .i32⟩
  | 50 => ⟨S64x100000, .i32⟩
  | 51 => ⟨S64x100000, .i32⟩
  | 52 => ⟨S_, .i32⟩
  | 53 => ⟨S64x100000, .i32⟩
  | 54 => ⟨S64x100000, .i32⟩
  | 55 => ⟨S_, .i32⟩
  | 56 => ⟨S64x100000, .i32⟩
  | 57 => ⟨S64x100000, .i32⟩
  | 58 => ⟨S64x100000, .i32⟩
  | 59 => ⟨S64x100000, .i32⟩
  | 60 => ⟨S64x100000, .i32⟩
  | 61 => ⟨S_, .i32⟩
  | 62 => ⟨S64x100000, .i32⟩
  | 63 => ⟨S64x100000, .i32⟩
  | 64 => ⟨S_, .i32⟩
  | 65 => ⟨S64x100000, .i32⟩
  | 66 => ⟨S64x100000, .i32⟩
  | 67 => ⟨S64x100000, .i32⟩
  | 68 => ⟨S64x100000, .i32⟩
  | 69 => ⟨S64x100000, .i32⟩
  | 70 => ⟨S_, .i32⟩
  | 71 => ⟨S64x100000, .i32⟩
  | 72 => ⟨S64x100000, .i32⟩
  | 73 => ⟨S_, .i32⟩
  | 74 => ⟨S64x100000, .i32⟩
  | 75 => ⟨S64x100000, .i32⟩
  | 76 => ⟨S64x100000, .i32⟩
  | 77 => ⟨S64x100000, .i32⟩
  | 78 => ⟨S64x100000, .i32⟩
  | 79 => ⟨S_, .i32⟩
  | 80 => ⟨S64x100000, .i32⟩
  | 81 => ⟨S64x100000, .i32⟩
  | 82 => ⟨S_, .i32⟩
  | 83 => ⟨S64x100000, .i32⟩
  | 84 => ⟨S64x100000, .i32⟩
  | 85 => ⟨S64x100000, .i32⟩
  | 86 => ⟨S64x100000, .i32⟩
  | 87 => ⟨S64x100000, .i32⟩
  | 88 => ⟨S64x100000, .i32⟩
  | 89 => ⟨S64x100000, .i32⟩
  | 90 => ⟨S64x100000, .i32⟩
  | 91 => ⟨S_, .i32⟩
  | 92 => ⟨S64x100000, .i32⟩
  | 93 => ⟨S64x100000, .i32⟩
  | 94 => ⟨S64x100000, .i32⟩
  | 95 => ⟨S_, .i32⟩
  | 96 => ⟨S64x100000, .i32⟩
  | 97 => ⟨S64x100000, .i32⟩
  | 98 => ⟨S_, .i32⟩
  | 99 => ⟨S64x100000, .i32⟩
  | 100 => ⟨S64x100000, .i32⟩
  | 101 => ⟨S64x100000, .i32⟩
  | 102 => ⟨S64x100000, .i32⟩
  | 103 => ⟨S64x100000, .i32⟩
  | 104 => ⟨S_, .i32⟩
  | 105 => ⟨S64x100000, .i32⟩
  | 106 => ⟨S64x100000, .i32⟩
  | 107 => ⟨S_, .i32⟩
  | 108 => ⟨S64x100000, .i32⟩
  | 109 => ⟨S64x100000, .i32⟩
  | 110 => ⟨S64x100000, .i32⟩
  | 111 => ⟨S64x100000, .i32⟩
  | 112 => ⟨S64x100000, .i32⟩
  | 113 => ⟨S_, .i32⟩
  | 114 => ⟨S64x100000, .i32⟩
  | 115 => ⟨S64x100000, .i32⟩
  | 116 => ⟨S_, .i32⟩
  | 117 => ⟨S64x100000, .i32⟩
  | 118 => ⟨S64x100000, .i32⟩
  | 119 => ⟨S64x100000, .i32⟩
  | 120 => ⟨S64x100000, .i32⟩
  | 121 => ⟨S64x100000, .i32⟩
  | 122 => ⟨S_, .i32⟩
  | 123 => ⟨S64x100000, .i32⟩
  | 124 => ⟨S64x100000, .i32⟩
  | 125 => ⟨S_, .i32⟩
  | 126 => ⟨S64x100000, .i32⟩
  | 127 => ⟨S64x100000, .i32⟩
  | _ => ⟨S64x8x100000, .f32⟩

abbrev hbmTy0_1 (i : Nat) : BufTy := match i % 128 with
  | 0 => ⟨S64x100000, .i32⟩
  | 1 => ⟨S64x100000, .i32⟩
  | 2 => ⟨S64x100000, .i32⟩
  | 3 => ⟨S64x100000, .i32⟩
  | 4 => ⟨S64x100000, .i32⟩
  | 5 => ⟨S64x100000, .i32⟩
  | 6 => ⟨S_, .i32⟩
  | 7 => ⟨S64x100000, .i32⟩
  | 8 => ⟨S64x100000, .i32⟩
  | 9 => ⟨S64x100000, .i32⟩
  | 10 => ⟨S_, .i32⟩
  | 11 => ⟨S64x100000, .i32⟩
  | 12 => ⟨S64x100000, .i32⟩
  | 13 => ⟨S_, .i32⟩
  | 14 => ⟨S64x100000, .i32⟩
  | 15 => ⟨S64x100000, .i32⟩
  | 16 => ⟨S64x100000, .i32⟩
  | 17 => ⟨S64x100000, .i32⟩
  | 18 => ⟨S64x100000, .i32⟩
  | 19 => ⟨S_, .i32⟩
  | 20 => ⟨S64x100000, .i32⟩
  | 21 => ⟨S64x100000, .i32⟩
  | 22 => ⟨S_, .i32⟩
  | 23 => ⟨S64x100000, .i32⟩
  | 24 => ⟨S64x100000, .i32⟩
  | 25 => ⟨S64x100000, .i32⟩
  | 26 => ⟨S64x100000, .i32⟩
  | 27 => ⟨S64x100000, .i32⟩
  | 28 => ⟨S_, .i32⟩
  | 29 => ⟨S64x100000, .i32⟩
  | 30 => ⟨S64x100000, .i32⟩
  | 31 => ⟨S_, .i32⟩
  | 32 => ⟨S64x100000, .i32⟩
  | 33 => ⟨S64x100000, .i32⟩
  | 34 => ⟨S64x100000, .i32⟩
  | 35 => ⟨S64x100000, .i32⟩
  | 36 => ⟨S64x100000, .i32⟩
  | 37 => ⟨S_, .i32⟩
  | 38 => ⟨S64x100000, .i32⟩
  | 39 => ⟨S64x100000, .i32⟩
  | 40 => ⟨S_, .i32⟩
  | 41 => ⟨S64x100000, .i32⟩
  | 42 => ⟨S64x100000, .i32⟩
  | 43 => ⟨S64x100000, .i32⟩
  | 44 => ⟨S64x100000, .i32⟩
  | 45 => ⟨S64x100000, .i32⟩
  | 46 => ⟨S64x100000, .i32⟩
  | 47 => ⟨S64x100000, .i32⟩
  | 48 => ⟨S64x100000, .i32⟩
  | 49 => ⟨S_, .i32⟩
  | 50 => ⟨S64x100000, .i32⟩
  | 51 => ⟨S64x100000, .i32⟩
  | 52 => ⟨S64x100000, .i32⟩
  | 53 => ⟨S_, .i32⟩
  | 54 => ⟨S64x100000, .i32⟩
  | 55 => ⟨S64x100000, .i32⟩
  | 56 => ⟨S_, .i32⟩
  | 57 => ⟨S64x100000, .i32⟩
  | 58 => ⟨S64x100000, .i32⟩
  | 59 => ⟨S64x100000, .i32⟩
  | 60 => ⟨S64x100000, .i32⟩
  | 61 => ⟨S64x100000, .i32⟩
  | 62 => ⟨S_, .i32⟩
  | 63 => ⟨S64x100000, .i32⟩
  | 64 => ⟨S64x100000, .i32⟩
  | 65 => ⟨S_, .i32⟩
  | 66 => ⟨S64x100000, .i32⟩
  | 67 => ⟨S64x100000, .i32⟩
  | 68 => ⟨S64x100000, .i32⟩
  | 69 => ⟨S64x100000, .i32⟩
  | 70 => ⟨S64x100000, .i32⟩
  | 71 => ⟨S_, .i32⟩
  | 72 => ⟨S64x100000, .i32⟩
  | 73 => ⟨S64x100000, .i32⟩
  | 74 => ⟨S_, .i32⟩
  | 75 => ⟨S64x100000, .i32⟩
  | 76 => ⟨S64x100000, .i32⟩
  | 77 => ⟨S64x100000, .i32⟩
  | 78 => ⟨S64x100000, .i32⟩
  | 79 => ⟨S64x100000, .i32⟩
  | 80 => ⟨S_, .i32⟩
  | 81 => ⟨S64x100000, .i32⟩
  | 82 => ⟨S64x100000, .i32⟩
  | 83 => ⟨S_, .i32⟩
  | 84 => ⟨S64x100000, .i32⟩
  | 85 => ⟨S64x100000, .i32⟩
  | 86 => ⟨S64x100000, .i32⟩
  | 87 => ⟨S64x100000, .i32⟩
  | 88 => ⟨S64x100000, .i32⟩
  | 89 => ⟨S64x100000, .i32⟩
  | 90 => ⟨S64x100000, .i32⟩
  | 91 => ⟨S64x100000, .i32⟩
  | 92 => ⟨S_, .i32⟩
  | 93 => ⟨S64x100000, .i32⟩
  | 94 => ⟨S64x100000, .i32⟩
  | 95 => ⟨S64x100000, .i32⟩
  | 96 => ⟨S_, .i32⟩
  | 97 => ⟨S64x100000, .i32⟩
  | 98 => ⟨S64x100000, .i32⟩
  | 99 => ⟨S_, .i32⟩
  | 100 => ⟨S64x100000, .i32⟩
  | 101 => ⟨S64x100000, .i32⟩
  | 102 => ⟨S64x100000, .i32⟩
  | 103 => ⟨S64x100000, .i32⟩
  | 104 => ⟨S64x100000, .i32⟩
  | 105 => ⟨S_, .i32⟩
  | 106 => ⟨S64x100000, .i32⟩
  | 107 => ⟨S64x100000, .i32⟩
  | 108 => ⟨S_, .i32⟩
  | 109 => ⟨S64x100000, .i32⟩
  | 110 => ⟨S64x100000, .i32⟩
  | 111 => ⟨S64x100000, .i32⟩
  | 112 => ⟨S64x100000, .i32⟩
  | 113 => ⟨S64x100000, .i32⟩
  | 114 => ⟨S_, .i32⟩
  | 115 => ⟨S64x100000, .i32⟩
  | 116 => ⟨S64x100000, .i32⟩
  | 117 => ⟨S_, .i32⟩
  | 118 => ⟨S64x100000, .i32⟩
  | 119 => ⟨S64x100000, .i32⟩
  | 120 => ⟨S64x100000, .i32⟩
  | 121 => ⟨S64x100000, .i32⟩
  | 122 => ⟨S64x100000, .i32⟩
  | 123 => ⟨S_, .i32⟩
  | 124 => ⟨S64x100000, .i32⟩
  | 125 => ⟨S64x100000, .i32⟩
  | 126 => ⟨S_, .i32⟩
  | 127 => ⟨S64x100000, .i32⟩
  | _ => ⟨S64x8x100000, .f32⟩

abbrev hbmTy0_2 (i : Nat) : BufTy := match i % 128 with
  | 0 => ⟨S64x100000, .i32⟩
  | 1 => ⟨S64x100000, .i32⟩
  | 2 => ⟨S64x100000, .i32⟩
  | 3 => ⟨S64x100000, .i32⟩
  | 4 => ⟨S64x100000, .i32⟩
  | 5 => ⟨S64x100000, .i32⟩
  | 6 => ⟨S64x100000, .i32⟩
  | 7 => ⟨S_, .i32⟩
  | 8 => ⟨S64x100000, .i32⟩
  | 9 => ⟨S64x100000, .i32⟩
  | 10 => ⟨S64x100000, .i32⟩
  | 11 => ⟨S_, .i32⟩
  | 12 => ⟨S64x100000, .i32⟩
  | 13 => ⟨S64x100000, .i32⟩
  | 14 => ⟨S_, .i32⟩
  | 15 => ⟨S64x100000, .i32⟩
  | 16 => ⟨S64x100000, .i32⟩
  | 17 => ⟨S64x100000, .f32⟩
  | 18 => ⟨S_, .f32⟩
  | 19 => ⟨S64x100000, .f32⟩
  | 20 => ⟨S64x100000, .f32⟩
  | 21 => ⟨S1x1, .f32⟩
  | 22 => ⟨S64x100000, .f32⟩
  | 23 => ⟨S64x100000, .f32⟩
  | 24 => ⟨S64x100000, .f32⟩
  | 25 => ⟨S64x100000, .f32⟩
  | 26 => ⟨S64x100000, .f32⟩
  | 27 => ⟨S64x100000, .f32⟩
  | 28 => ⟨S_, .f32⟩
  | 29 => ⟨S64x100000, .f32⟩
  | 30 => ⟨S64x100000, .f32⟩
  | 31 => ⟨S64x100000, .f32⟩
  | 32 => ⟨S64x100000, .f32⟩
  | 33 => ⟨S64x100000, .f32⟩
  | 34 => ⟨S64x100000, .f32⟩
  | 35 => ⟨S64x100000, .f32⟩
  | 36 => ⟨S64x100000, .i32⟩
  | 37 => ⟨S_, .f32⟩
  | 38 => ⟨S_, .i32⟩
  | 39 => ⟨S64, .f32⟩
  | 40 => ⟨S64, .i32⟩
  | _ => ⟨S64x8x100000, .f32⟩

abbrev hbmTy (i : Nat) : BufTy := match i / 128 with
  | 0 => hbmTy0_0 i
  | 1 => hbmTy0_1 i
  | 2 => hbmTy0_2 i
  | _ => ⟨S64x8x100000, .f32⟩

abbrev bufTy : (tb : Table) → Fin (tcTables nBuf tb) → BufTy
  | .hbm, ⟨i, _⟩ => hbmTy i
  | _, _ => ⟨S64x8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_c : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_c_1 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18 : Ref sig .tc := ⟨.hbm, 43, rfl⟩
abbrev main_call0_call0_v0 : Ref sig .tc := ⟨.hbm, 44, rfl⟩
abbrev main_call0_call0_c : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_c_0 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_c_1 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_call0_v12 : Ref sig .tc := ⟨.hbm, 59, rfl⟩
abbrev main_call0_call0_v13 : Ref sig .tc := ⟨.hbm, 60, rfl⟩
abbrev main_call0_call0_c_2 : Ref sig .tc := ⟨.hbm, 61, rfl⟩
abbrev main_call0_call0_v14 : Ref sig .tc := ⟨.hbm, 62, rfl⟩
abbrev main_call0_call0_v15 : Ref sig .tc := ⟨.hbm, 63, rfl⟩
abbrev main_call0_call0_c_3 : Ref sig .tc := ⟨.hbm, 64, rfl⟩
abbrev main_call0_call0_v16 : Ref sig .tc := ⟨.hbm, 65, rfl⟩
abbrev main_call0_call0_v17 : Ref sig .tc := ⟨.hbm, 66, rfl⟩
abbrev main_call0_call0_v18 : Ref sig .tc := ⟨.hbm, 67, rfl⟩
abbrev main_call0_call0_v19 : Ref sig .tc := ⟨.hbm, 68, rfl⟩
abbrev main_call0_call0_v20 : Ref sig .tc := ⟨.hbm, 69, rfl⟩
abbrev main_call0_call0_c_4 : Ref sig .tc := ⟨.hbm, 70, rfl⟩
abbrev main_call0_call0_v21 : Ref sig .tc := ⟨.hbm, 71, rfl⟩
abbrev main_call0_call0_v22 : Ref sig .tc := ⟨.hbm, 72, rfl⟩
abbrev main_call0_call0_c_5 : Ref sig .tc := ⟨.hbm, 73, rfl⟩
abbrev main_call0_call0_v23 : Ref sig .tc := ⟨.hbm, 74, rfl⟩
abbrev main_call0_call0_v24 : Ref sig .tc := ⟨.hbm, 75, rfl⟩
abbrev main_call0_call0_v25 : Ref sig .tc := ⟨.hbm, 76, rfl⟩
abbrev main_call0_call0_v26 : Ref sig .tc := ⟨.hbm, 77, rfl⟩
abbrev main_call0_call0_v27 : Ref sig .tc := ⟨.hbm, 78, rfl⟩
abbrev main_call0_call0_c_6 : Ref sig .tc := ⟨.hbm, 79, rfl⟩
abbrev main_call0_call0_v28 : Ref sig .tc := ⟨.hbm, 80, rfl⟩
abbrev main_call0_call0_v29 : Ref sig .tc := ⟨.hbm, 81, rfl⟩
abbrev main_call0_call0_c_7 : Ref sig .tc := ⟨.hbm, 82, rfl⟩
abbrev main_call0_call0_v30 : Ref sig .tc := ⟨.hbm, 83, rfl⟩
abbrev main_call0_call0_v31 : Ref sig .tc := ⟨.hbm, 84, rfl⟩
abbrev main_call0_call0_v32 : Ref sig .tc := ⟨.hbm, 85, rfl⟩
abbrev main_call0_call0_v33 : Ref sig .tc := ⟨.hbm, 86, rfl⟩
abbrev main_call0_call0_v34 : Ref sig .tc := ⟨.hbm, 87, rfl⟩
abbrev main_call0_call0_v35 : Ref sig .tc := ⟨.hbm, 88, rfl⟩
abbrev main_call0_call0_v36 : Ref sig .tc := ⟨.hbm, 89, rfl⟩
abbrev main_call0_call0_v37 : Ref sig .tc := ⟨.hbm, 90, rfl⟩
abbrev main_call0_call0_c_8 : Ref sig .tc := ⟨.hbm, 91, rfl⟩
abbrev main_call0_call0_v38 : Ref sig .tc := ⟨.hbm, 92, rfl⟩
abbrev main_call0_call0_v39 : Ref sig .tc := ⟨.hbm, 93, rfl⟩
abbrev main_call0_call0_v40 : Ref sig .tc := ⟨.hbm, 94, rfl⟩
abbrev main_call0_call0_c_9 : Ref sig .tc := ⟨.hbm, 95, rfl⟩
abbrev main_call0_call0_v41 : Ref sig .tc := ⟨.hbm, 96, rfl⟩
abbrev main_call0_call0_v42 : Ref sig .tc := ⟨.hbm, 97, rfl⟩
abbrev main_call0_call0_c_10 : Ref sig .tc := ⟨.hbm, 98, rfl⟩
abbrev main_call0_call0_v43 : Ref sig .tc := ⟨.hbm, 99, rfl⟩
abbrev main_call0_call0_v44 : Ref sig .tc := ⟨.hbm, 100, rfl⟩
abbrev main_call0_call0_v45 : Ref sig .tc := ⟨.hbm, 101, rfl⟩
abbrev main_call0_call0_v46 : Ref sig .tc := ⟨.hbm, 102, rfl⟩
abbrev main_call0_call0_v47 : Ref sig .tc := ⟨.hbm, 103, rfl⟩
abbrev main_call0_call0_c_11 : Ref sig .tc := ⟨.hbm, 104, rfl⟩
abbrev main_call0_call0_v48 : Ref sig .tc := ⟨.hbm, 105, rfl⟩
abbrev main_call0_call0_v49 : Ref sig .tc := ⟨.hbm, 106, rfl⟩
abbrev main_call0_call0_c_12 : Ref sig .tc := ⟨.hbm, 107, rfl⟩
abbrev main_call0_call0_v50 : Ref sig .tc := ⟨.hbm, 108, rfl⟩
abbrev main_call0_call0_v51 : Ref sig .tc := ⟨.hbm, 109, rfl⟩
abbrev main_call0_call0_v52 : Ref sig .tc := ⟨.hbm, 110, rfl⟩
abbrev main_call0_call0_v53 : Ref sig .tc := ⟨.hbm, 111, rfl⟩
abbrev main_call0_call0_v54 : Ref sig .tc := ⟨.hbm, 112, rfl⟩
abbrev main_call0_call0_c_13 : Ref sig .tc := ⟨.hbm, 113, rfl⟩
abbrev main_call0_call0_v55 : Ref sig .tc := ⟨.hbm, 114, rfl⟩
abbrev main_call0_call0_v56 : Ref sig .tc := ⟨.hbm, 115, rfl⟩
abbrev main_call0_call0_c_14 : Ref sig .tc := ⟨.hbm, 116, rfl⟩
abbrev main_call0_call0_v57 : Ref sig .tc := ⟨.hbm, 117, rfl⟩
abbrev main_call0_call0_v58 : Ref sig .tc := ⟨.hbm, 118, rfl⟩
abbrev main_call0_call0_v59 : Ref sig .tc := ⟨.hbm, 119, rfl⟩
abbrev main_call0_call0_v60 : Ref sig .tc := ⟨.hbm, 120, rfl⟩
abbrev main_call0_call0_v61 : Ref sig .tc := ⟨.hbm, 121, rfl⟩
abbrev main_call0_call0_c_15 : Ref sig .tc := ⟨.hbm, 122, rfl⟩
abbrev main_call0_call0_v62 : Ref sig .tc := ⟨.hbm, 123, rfl⟩
abbrev main_call0_call0_v63 : Ref sig .tc := ⟨.hbm, 124, rfl⟩
abbrev main_call0_call0_c_16 : Ref sig .tc := ⟨.hbm, 125, rfl⟩
abbrev main_call0_call0_v64 : Ref sig .tc := ⟨.hbm, 126, rfl⟩
abbrev main_call0_call0_v65 : Ref sig .tc := ⟨.hbm, 127, rfl⟩
abbrev main_call0_call0_v66 : Ref sig .tc := ⟨.hbm, 128, rfl⟩
abbrev main_call0_call0_v67 : Ref sig .tc := ⟨.hbm, 129, rfl⟩
abbrev main_call0_call0_v68 : Ref sig .tc := ⟨.hbm, 130, rfl⟩
abbrev main_call0_call0_v69 : Ref sig .tc := ⟨.hbm, 131, rfl⟩
abbrev main_call0_call0_v70 : Ref sig .tc := ⟨.hbm, 132, rfl⟩
abbrev main_call0_call0_v71 : Ref sig .tc := ⟨.hbm, 133, rfl⟩
abbrev main_call0_call0_c_17 : Ref sig .tc := ⟨.hbm, 134, rfl⟩
abbrev main_call0_call0_v72 : Ref sig .tc := ⟨.hbm, 135, rfl⟩
abbrev main_call0_call0_v73 : Ref sig .tc := ⟨.hbm, 136, rfl⟩
abbrev main_call0_call0_v74 : Ref sig .tc := ⟨.hbm, 137, rfl⟩
abbrev main_call0_call0_c_18 : Ref sig .tc := ⟨.hbm, 138, rfl⟩
abbrev main_call0_call0_v75 : Ref sig .tc := ⟨.hbm, 139, rfl⟩
abbrev main_call0_call0_v76 : Ref sig .tc := ⟨.hbm, 140, rfl⟩
abbrev main_call0_call0_c_19 : Ref sig .tc := ⟨.hbm, 141, rfl⟩
abbrev main_call0_call0_v77 : Ref sig .tc := ⟨.hbm, 142, rfl⟩
abbrev main_call0_call0_v78 : Ref sig .tc := ⟨.hbm, 143, rfl⟩
abbrev main_call0_call0_v79 : Ref sig .tc := ⟨.hbm, 144, rfl⟩
abbrev main_call0_call0_v80 : Ref sig .tc := ⟨.hbm, 145, rfl⟩
abbrev main_call0_call0_v81 : Ref sig .tc := ⟨.hbm, 146, rfl⟩
abbrev main_call0_call0_c_20 : Ref sig .tc := ⟨.hbm, 147, rfl⟩
abbrev main_call0_call0_v82 : Ref sig .tc := ⟨.hbm, 148, rfl⟩
abbrev main_call0_call0_v83 : Ref sig .tc := ⟨.hbm, 149, rfl⟩
abbrev main_call0_call0_c_21 : Ref sig .tc := ⟨.hbm, 150, rfl⟩
abbrev main_call0_call0_v84 : Ref sig .tc := ⟨.hbm, 151, rfl⟩
abbrev main_call0_call0_v85 : Ref sig .tc := ⟨.hbm, 152, rfl⟩
abbrev main_call0_call0_v86 : Ref sig .tc := ⟨.hbm, 153, rfl⟩
abbrev main_call0_call0_v87 : Ref sig .tc := ⟨.hbm, 154, rfl⟩
abbrev main_call0_call0_v88 : Ref sig .tc := ⟨.hbm, 155, rfl⟩
abbrev main_call0_call0_c_22 : Ref sig .tc := ⟨.hbm, 156, rfl⟩
abbrev main_call0_call0_v89 : Ref sig .tc := ⟨.hbm, 157, rfl⟩
abbrev main_call0_call0_v90 : Ref sig .tc := ⟨.hbm, 158, rfl⟩
abbrev main_call0_call0_c_23 : Ref sig .tc := ⟨.hbm, 159, rfl⟩
abbrev main_call0_call0_v91 : Ref sig .tc := ⟨.hbm, 160, rfl⟩
abbrev main_call0_call0_v92 : Ref sig .tc := ⟨.hbm, 161, rfl⟩
abbrev main_call0_call0_v93 : Ref sig .tc := ⟨.hbm, 162, rfl⟩
abbrev main_call0_call0_v94 : Ref sig .tc := ⟨.hbm, 163, rfl⟩
abbrev main_call0_call0_v95 : Ref sig .tc := ⟨.hbm, 164, rfl⟩
abbrev main_call0_call0_c_24 : Ref sig .tc := ⟨.hbm, 165, rfl⟩
abbrev main_call0_call0_v96 : Ref sig .tc := ⟨.hbm, 166, rfl⟩
abbrev main_call0_call0_v97 : Ref sig .tc := ⟨.hbm, 167, rfl⟩
abbrev main_call0_call0_c_25 : Ref sig .tc := ⟨.hbm, 168, rfl⟩
abbrev main_call0_call0_v98 : Ref sig .tc := ⟨.hbm, 169, rfl⟩
abbrev main_call0_call0_v99 : Ref sig .tc := ⟨.hbm, 170, rfl⟩
abbrev main_call0_call0_v100 : Ref sig .tc := ⟨.hbm, 171, rfl⟩
abbrev main_call0_call0_v101 : Ref sig .tc := ⟨.hbm, 172, rfl⟩
abbrev main_call0_call0_v102 : Ref sig .tc := ⟨.hbm, 173, rfl⟩
abbrev main_call0_call0_v103 : Ref sig .tc := ⟨.hbm, 174, rfl⟩
abbrev main_call0_call0_v104 : Ref sig .tc := ⟨.hbm, 175, rfl⟩
abbrev main_call0_call0_v105 : Ref sig .tc := ⟨.hbm, 176, rfl⟩
abbrev main_call0_call0_c_26 : Ref sig .tc := ⟨.hbm, 177, rfl⟩
abbrev main_call0_call0_v106 : Ref sig .tc := ⟨.hbm, 178, rfl⟩
abbrev main_call0_call0_v107 : Ref sig .tc := ⟨.hbm, 179, rfl⟩
abbrev main_call0_call0_v108 : Ref sig .tc := ⟨.hbm, 180, rfl⟩
abbrev main_call0_call0_c_27 : Ref sig .tc := ⟨.hbm, 181, rfl⟩
abbrev main_call0_call0_v109 : Ref sig .tc := ⟨.hbm, 182, rfl⟩
abbrev main_call0_call0_v110 : Ref sig .tc := ⟨.hbm, 183, rfl⟩
abbrev main_call0_call0_c_28 : Ref sig .tc := ⟨.hbm, 184, rfl⟩
abbrev main_call0_call0_v111 : Ref sig .tc := ⟨.hbm, 185, rfl⟩
abbrev main_call0_call0_v112 : Ref sig .tc := ⟨.hbm, 186, rfl⟩
abbrev main_call0_call0_v113 : Ref sig .tc := ⟨.hbm, 187, rfl⟩
abbrev main_call0_call0_v114 : Ref sig .tc := ⟨.hbm, 188, rfl⟩
abbrev main_call0_call0_v115 : Ref sig .tc := ⟨.hbm, 189, rfl⟩
abbrev main_call0_call0_c_29 : Ref sig .tc := ⟨.hbm, 190, rfl⟩
abbrev main_call0_call0_v116 : Ref sig .tc := ⟨.hbm, 191, rfl⟩
abbrev main_call0_call0_v117 : Ref sig .tc := ⟨.hbm, 192, rfl⟩
abbrev main_call0_call0_c_30 : Ref sig .tc := ⟨.hbm, 193, rfl⟩
abbrev main_call0_call0_v118 : Ref sig .tc := ⟨.hbm, 194, rfl⟩
abbrev main_call0_call0_v119 : Ref sig .tc := ⟨.hbm, 195, rfl⟩
abbrev main_call0_call0_v120 : Ref sig .tc := ⟨.hbm, 196, rfl⟩
abbrev main_call0_call0_v121 : Ref sig .tc := ⟨.hbm, 197, rfl⟩
abbrev main_call0_call0_v122 : Ref sig .tc := ⟨.hbm, 198, rfl⟩
abbrev main_call0_call0_c_31 : Ref sig .tc := ⟨.hbm, 199, rfl⟩
abbrev main_call0_call0_v123 : Ref sig .tc := ⟨.hbm, 200, rfl⟩
abbrev main_call0_call0_v124 : Ref sig .tc := ⟨.hbm, 201, rfl⟩
abbrev main_call0_call0_c_32 : Ref sig .tc := ⟨.hbm, 202, rfl⟩
abbrev main_call0_call0_v125 : Ref sig .tc := ⟨.hbm, 203, rfl⟩
abbrev main_call0_call0_v126 : Ref sig .tc := ⟨.hbm, 204, rfl⟩
abbrev main_call0_call0_v127 : Ref sig .tc := ⟨.hbm, 205, rfl⟩
abbrev main_call0_call0_v128 : Ref sig .tc := ⟨.hbm, 206, rfl⟩
abbrev main_call0_call0_v129 : Ref sig .tc := ⟨.hbm, 207, rfl⟩
abbrev main_call0_call0_c_33 : Ref sig .tc := ⟨.hbm, 208, rfl⟩
abbrev main_call0_call0_v130 : Ref sig .tc := ⟨.hbm, 209, rfl⟩
abbrev main_call0_call0_v131 : Ref sig .tc := ⟨.hbm, 210, rfl⟩
abbrev main_call0_call0_c_34 : Ref sig .tc := ⟨.hbm, 211, rfl⟩
abbrev main_call0_call0_v132 : Ref sig .tc := ⟨.hbm, 212, rfl⟩
abbrev main_call0_call0_v133 : Ref sig .tc := ⟨.hbm, 213, rfl⟩
abbrev main_call0_call0_v134 : Ref sig .tc := ⟨.hbm, 214, rfl⟩
abbrev main_call0_call0_v135 : Ref sig .tc := ⟨.hbm, 215, rfl⟩
abbrev main_call0_call0_v136 : Ref sig .tc := ⟨.hbm, 216, rfl⟩
abbrev main_call0_call0_v137 : Ref sig .tc := ⟨.hbm, 217, rfl⟩
abbrev main_call0_call0_v138 : Ref sig .tc := ⟨.hbm, 218, rfl⟩
abbrev main_call0_call0_v139 : Ref sig .tc := ⟨.hbm, 219, rfl⟩
abbrev main_call0_call0_c_35 : Ref sig .tc := ⟨.hbm, 220, rfl⟩
abbrev main_call0_call0_v140 : Ref sig .tc := ⟨.hbm, 221, rfl⟩
abbrev main_call0_call0_v141 : Ref sig .tc := ⟨.hbm, 222, rfl⟩
abbrev main_call0_call0_v142 : Ref sig .tc := ⟨.hbm, 223, rfl⟩
abbrev main_call0_call0_c_36 : Ref sig .tc := ⟨.hbm, 224, rfl⟩
abbrev main_call0_call0_v143 : Ref sig .tc := ⟨.hbm, 225, rfl⟩
abbrev main_call0_call0_v144 : Ref sig .tc := ⟨.hbm, 226, rfl⟩
abbrev main_call0_call0_c_37 : Ref sig .tc := ⟨.hbm, 227, rfl⟩
abbrev main_call0_call0_v145 : Ref sig .tc := ⟨.hbm, 228, rfl⟩
abbrev main_call0_call0_v146 : Ref sig .tc := ⟨.hbm, 229, rfl⟩
abbrev main_call0_call0_v147 : Ref sig .tc := ⟨.hbm, 230, rfl⟩
abbrev main_call0_call0_v148 : Ref sig .tc := ⟨.hbm, 231, rfl⟩
abbrev main_call0_call0_v149 : Ref sig .tc := ⟨.hbm, 232, rfl⟩
abbrev main_call0_call0_c_38 : Ref sig .tc := ⟨.hbm, 233, rfl⟩
abbrev main_call0_call0_v150 : Ref sig .tc := ⟨.hbm, 234, rfl⟩
abbrev main_call0_call0_v151 : Ref sig .tc := ⟨.hbm, 235, rfl⟩
abbrev main_call0_call0_c_39 : Ref sig .tc := ⟨.hbm, 236, rfl⟩
abbrev main_call0_call0_v152 : Ref sig .tc := ⟨.hbm, 237, rfl⟩
abbrev main_call0_call0_v153 : Ref sig .tc := ⟨.hbm, 238, rfl⟩
abbrev main_call0_call0_v154 : Ref sig .tc := ⟨.hbm, 239, rfl⟩
abbrev main_call0_call0_v155 : Ref sig .tc := ⟨.hbm, 240, rfl⟩
abbrev main_call0_call0_v156 : Ref sig .tc := ⟨.hbm, 241, rfl⟩
abbrev main_call0_call0_c_40 : Ref sig .tc := ⟨.hbm, 242, rfl⟩
abbrev main_call0_call0_v157 : Ref sig .tc := ⟨.hbm, 243, rfl⟩
abbrev main_call0_call0_v158 : Ref sig .tc := ⟨.hbm, 244, rfl⟩
abbrev main_call0_call0_c_41 : Ref sig .tc := ⟨.hbm, 245, rfl⟩
abbrev main_call0_call0_v159 : Ref sig .tc := ⟨.hbm, 246, rfl⟩
abbrev main_call0_call0_v160 : Ref sig .tc := ⟨.hbm, 247, rfl⟩
abbrev main_call0_call0_v161 : Ref sig .tc := ⟨.hbm, 248, rfl⟩
abbrev main_call0_call0_v162 : Ref sig .tc := ⟨.hbm, 249, rfl⟩
abbrev main_call0_call0_v163 : Ref sig .tc := ⟨.hbm, 250, rfl⟩
abbrev main_call0_call0_c_42 : Ref sig .tc := ⟨.hbm, 251, rfl⟩
abbrev main_call0_call0_v164 : Ref sig .tc := ⟨.hbm, 252, rfl⟩
abbrev main_call0_call0_v165 : Ref sig .tc := ⟨.hbm, 253, rfl⟩
abbrev main_call0_call0_c_43 : Ref sig .tc := ⟨.hbm, 254, rfl⟩
abbrev main_call0_call0_v166 : Ref sig .tc := ⟨.hbm, 255, rfl⟩
abbrev main_call0_call0_v167 : Ref sig .tc := ⟨.hbm, 256, rfl⟩
abbrev main_call0_call0_v168 : Ref sig .tc := ⟨.hbm, 257, rfl⟩
abbrev main_call0_call0_v169 : Ref sig .tc := ⟨.hbm, 258, rfl⟩
abbrev main_call0_call0_v170 : Ref sig .tc := ⟨.hbm, 259, rfl⟩
abbrev main_call0_v19_0 : Ref sig .tc := ⟨.hbm, 260, rfl⟩
abbrev main_call0_call0_v172 : Ref sig .tc := ⟨.hbm, 261, rfl⟩
abbrev main_call0_call0_v173 : Ref sig .tc := ⟨.hbm, 262, rfl⟩
abbrev main_call0_call0_c_44 : Ref sig .tc := ⟨.hbm, 263, rfl⟩
abbrev main_call0_call0_v174 : Ref sig .tc := ⟨.hbm, 264, rfl⟩
abbrev main_call0_v19_1 : Ref sig .tc := ⟨.hbm, 265, rfl⟩
abbrev main_call0_v20 : Ref sig .tc := ⟨.hbm, 266, rfl⟩
abbrev main_call0_c_2 : Ref sig .tc := ⟨.hbm, 267, rfl⟩
abbrev main_call0_v21 : Ref sig .tc := ⟨.hbm, 268, rfl⟩
abbrev main_call0_v22 : Ref sig .tc := ⟨.hbm, 269, rfl⟩
abbrev main_call0_c_3 : Ref sig .tc := ⟨.hbm, 270, rfl⟩
abbrev main_call0_v23 : Ref sig .tc := ⟨.hbm, 271, rfl⟩
abbrev main_call0_v24 : Ref sig .tc := ⟨.hbm, 272, rfl⟩
abbrev main_call0_v25 : Ref sig .tc := ⟨.hbm, 273, rfl⟩
abbrev main_call0_cst : Ref sig .tc := ⟨.hbm, 274, rfl⟩
abbrev main_call0_v26 : Ref sig .tc := ⟨.hbm, 275, rfl⟩
abbrev main_call0_v27 : Ref sig .tc := ⟨.hbm, 276, rfl⟩
abbrev main_call0_v28 : Ref sig .tc := ⟨.hbm, 277, rfl⟩
abbrev main_call0_v29 : Ref sig .tc := ⟨.hbm, 278, rfl⟩
abbrev main_call0_v30 : Ref sig .tc := ⟨.hbm, 279, rfl⟩
abbrev main_call0_v31 : Ref sig .tc := ⟨.hbm, 280, rfl⟩
abbrev main_call0_v32 : Ref sig .tc := ⟨.hbm, 281, rfl⟩
abbrev main_call0_v33 : Ref sig .tc := ⟨.hbm, 282, rfl⟩
abbrev main_v14 : Ref sig .tc := ⟨.hbm, 283, rfl⟩
abbrev main_cst_4 : Ref sig .tc := ⟨.hbm, 284, rfl⟩
abbrev main_v15 : Ref sig .tc := ⟨.hbm, 285, rfl⟩
abbrev main_v16 : Ref sig .tc := ⟨.hbm, 286, rfl⟩
abbrev main_v17 : Ref sig .tc := ⟨.hbm, 287, rfl⟩
abbrev main_v18 : Ref sig .tc := ⟨.hbm, 288, rfl⟩
abbrev main_v19 : Ref sig .tc := ⟨.hbm, 289, rfl⟩
abbrev main_v20 : Ref sig .tc := ⟨.hbm, 290, rfl⟩
abbrev main_v21 : Ref sig .tc := ⟨.hbm, 291, rfl⟩
abbrev main_call1_v0 : Ref sig .tc := ⟨.hbm, 292, rfl⟩
abbrev main_call1_cst : Ref sig .tc := ⟨.hbm, 293, rfl⟩
abbrev main_call1_c : Ref sig .tc := ⟨.hbm, 294, rfl⟩
abbrev main_call1_v1_0 : Ref sig .tc := ⟨.hbm, 295, rfl⟩
abbrev main_v22 : Ref sig .tc := ⟨.hbm, 296, rfl⟩

abbrev nD : Nat := 1
abbrev τ : Topo := Topo.v7x

variable {F : FTy → Type} [FloatOps F]
-- ==== Proof.KernelIdeal.Body.lean ====
/- The kernel body of `KernelIdeal`, run once per kind of grid point (the first, one in the middle, the last), with
   what it leaves in each buffer named as a function of what it found. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-! ## The values of one grid point -/

/-- The two words of the cipher's state after eight rounds and two key injections, at every element of the block. -/
def eightA (i : grid0.Coords) : IVec S64x2048 32 := k0_pay24 (k0_pay10 i) (k0_pay11 i) (k0_pay12 i) k0_pay13
def eightB (i : grid0.Coords) : IVec S64x2048 32 := k0_pay25 (k0_pay10 i) (k0_pay11 i) (k0_pay12 i) k0_pay13
/-- The state further on. -/
def midA (i : grid0.Coords) : IVec S64x2048 32 := k0_pay36 (eightA i) (eightB i)
def midB (i : grid0.Coords) : IVec S64x2048 32 := k0_pay37 (eightA i) (eightB i)
/-- The state before the last key injection. -/
def endA (i : grid0.Coords) : IVec S64x2048 32 := k0_pay48 (midA i) (midB i)
def endB (i : grid0.Coords) : IVec S64x2048 32 := k0_pay49 (midA i) (midB i)

/-- The block of masked logits. -/
def biased (x0 : Vec F S64x1x1x2048 .f32) (x1 : Vec F S1x2048 .f32) : FVec F S64x2048 .f32 := k0_pay4 x0 x1
/-- The block of scores: masked logits plus noise, minus infinity past the vocabulary's end. -/
def scored (i : grid0.Coords) (x0 : Vec F S64x1x1x2048 .f32) (x1 : Vec F S1x2048 .f32) : FVec F S64x2048 .f32 :=
  k0_pay50 (biased x0 x1) (k0_pay5 i) (endA i) (endB i)
/-- Each row's largest score in the block, as a column; -/
def blockMax (i : grid0.Coords) (x0 : Vec F S64x1x1x2048 .f32) (x1 : Vec F S1x2048 .f32) : FVec F S64x1 .f32 :=
  k0_pay51 (biased x0 x1) (k0_pay5 i) (endA i) (endB i)
/-- the same along a whole row of lanes; -/
def blockMaxRow (i : grid0.Coords) (x0 : Vec F S64x1x1x2048 .f32) (x1 : Vec F S1x2048 .f32) : FVec F S64x128 .f32 :=
  k0_pay52 (biased x0 x1) (k0_pay5 i) (endA i) (endB i)
/-- and the first column where it stands, along a whole row of lanes. -/
def blockArgRow (i : grid0.Coords) (x0 : Vec F S64x1x1x2048 .f32) (x1 : Vec F S1x2048 .f32) : IVec S64x128 32 :=
  k0_pay53 (biased x0 x1) (k0_pay5 i) (endA i) (endB i)
/-- What the first point stores into the two scratch buffers. -/
def firstMax (i : grid0.Coords) (x0 : Vec F S64x1x1x2048 .f32) (x1 : Vec F S1x2048 .f32) : Vec F S64x128 .f32 :=
  k0_pay54 (biased x0 x1) (k0_pay5 i) (endA i) (endB i)
def firstArg (i : grid0.Coords) (x0 : Vec F S64x1x1x2048 .f32) (x1 : Vec F S1x2048 .f32) : Vec F S64x128 .i32 :=
  k0_pay55 (F := F) (biased x0 x1) (k0_pay5 i) (endA i) (endB i)
/-- The first lane of every row. -/
def lane0 (x : Vec F S64x128 .f32) : Vec F S64x1 .f32 :=
  fun j => x ((Rect.unit (s := S64x128) ![0, 0] S64x1.size inb_S64x128_S64x1_0_0).emb j)
/-- What a later point stores into the two scratch buffers, over what it found there. -/
def nextMax (i : grid0.Coords) (x0 : Vec F S64x1x1x2048 .f32) (x1 : Vec F S1x2048 .f32) (s0 : Vec F S64x128 .f32) :
    Vec F S64x128 .f32 := k0_pay2 (blockMax i x0 x1) (blockMaxRow i x0 x1) (lane0 s0) s0
def nextArg (i : grid0.Coords) (x0 : Vec F S64x1x1x2048 .f32) (x1 : Vec F S1x2048 .f32) (s0 : Vec F S64x128 .f32)
    (s1 : Vec F S64x128 .i32) : Vec F S64x128 .i32 := k0_pay3 (blockMax i x0 x1) (blockArgRow i x0 x1) (lane0 s0) s1

/-! ## The conditions of the body's branches -/

abbrev isFirst (i : grid0.Coords) : Prop :=
  (Scalar.cmpi .ne (Scalar.extui (Scalar.cmpi .eq (BitVec.ofNat 32 (i 0).val) 0#32)) 0#32) = 1#1
abbrev isLater (i : grid0.Coords) : Prop :=
  (Scalar.cmpi .ne (Scalar.extui (Scalar.cmpi .sgt (BitVec.ofNat 32 (i 0).val) 0#32)) 0#32) = 1#1
abbrev isLast (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)
theorem isLast_iff : ∀ t : Fin cfg0.N, isLast (grid0.coords t) ↔ t.val = 48 :=
  (by decide +kernel : ∀ t : Fin grid0.N, isLast (grid0.coords t) ↔ t.val = 48)

/-! ## The body's run -/

set_option maxHeartbeats 1000000 in
/-- The first point: the block's masked logits are stored, and the block's maxima and their columns are put
    into the two scratch buffers, whatever these held; the integer output's buffer is not touched. -/
theorem run_first (c : Dev nD) (i : grid0.Coords)
    (arg1 : Memref sig .tc .vmem S64x1x1x2048 .f32) (harg1 : arg1.IsWhole) (arg2 : Memref sig .tc .vmem S1x2048 .f32) (harg2 : arg2.IsWhole)
    (arg3 : Memref sig .tc .vmem S64x2048 .f32) (harg3 : arg3.IsWhole) (arg4 : Memref sig .tc .vmem S64x128 .i32) (harg4 : arg4.IsWhole)
    (arg5 : Memref sig .tc .vmem S64x128 .f32) (harg5 : arg5.IsWhole) (arg6 : Memref sig .tc .vmem S64x128 .i32) (harg6 : arg6.IsWhole)
    (h0 : isFirst i) (h1 : ¬isLater i) (h2 : ¬isLast i)
    (x0 : Vec F S64x1x1x2048 .f32) (x1 : Vec F S1x2048 .f32) (x3 : Vec F S64x128 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
              ∗ owns (c : Thread nD τ) arg3 fullShare (biased x0 x1) ∗ owns (c : Thread nD τ) arg4 fullShare x3
              ∗ owns (c : Thread nD τ) arg5 fullShare (firstMax i x0 x1) ∗ owns (c : Thread nD τ) arg6 fullShare (firstArg i x0 x1)) -∗ K ⟨⟩))
      ⊢ wp frame (wpE (defs₀ (F := F)) Variants.none c none) E
          (cc0__body i arg1 harg1 arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, ⟨%f3, %hf3, H3⟩, ⟨%e0, %g0, -, G0⟩, ⟨%e1, %g1, -, G1⟩, Hk⟩
  obtain rfl := harg1.eq_unread hf0; obtain rfl := harg2.eq_unread hf1
  obtain rfl := harg4.eq_unread hf3
  sl_exec (disch := first | sl_exact h0 | sl_exact h1 | sl_exact h2)
  sl_step
  iapply Hk
  have l0 : arg1.view.readAt (Elt F) (Rect.unit (s := S64x1x1x2048) ![0, 0, 0, 0] ![64, 1, 1, 2048] inb_S64x1x1x2048_S64x1x1x2048_0_0_0_0).toLoadRect
      (harg1.unread x0) = x0 := (View.readAt_full _ _ _).trans (harg1.read_unread x0)
  have l1 : arg2.view.readAt (Elt F) (Rect.unit (s := S1x2048) ![0, 0] ![1, 2048] inb_S1x2048_S1x2048_0_0).toLoadRect
      (harg2.unread x1) = x1 := (View.readAt_full _ _ _).trans (harg2.read_unread x1)
  isplitl [H0]
  · iexists _; isplitr; · ipureintro; exact harg1.read_unread _
    iexact H0
  isplitl [H1]
  · iexists _; isplitr; · ipureintro; exact harg2.read_unread _
    iexact H1
  isplitl [H2]
  · iexists _; isplitr
    swap
    · iexact H2
    ipureintro
    rw [View.read_writes_full, View.readAt_full, View.readAt_full, hf0, hf1]; rfl
  isplitl [H3]
  · iexists _; isplitr; · ipureintro; exact harg4.read_unread _
    iexact H3
  isplitl [G0]
  · iexists _; isplitr
    swap
    · iexact G0
    ipureintro
    rw [View.read_writes_full]; dsimp only [run_first.sl.r, run_first.sl.r_1, run_first.sl.r_2, run_first.sl.r_3, run_first.sl.r_4, run_first.sl.r_5, run_first.sl.r_6]; rw [l0, l1]; rfl
  · iexists _; isplitr
    swap
    · iexact G1
    ipureintro
    rw [View.read_writes_full]; dsimp only [run_first.sl.r, run_first.sl.r_1, run_first.sl.r_2, run_first.sl.r_3, run_first.sl.r_4, run_first.sl.r_5, run_first.sl.r_6]; rw [l0, l1]; rfl

set_option maxHeartbeats 1000000 in
/-- A point in the middle: the block's masked logits are stored, the two scratch buffers are updated, the integer
    output's buffer is not touched. -/
theorem run_middle (c : Dev nD) (i : grid0.Coords)
    (arg1 : Memref sig .tc .vmem S64x1x1x2048 .f32) (harg1 : arg1.IsWhole) (arg2 : Memref sig .tc .vmem S1x2048 .f32) (harg2 : arg2.IsWhole)
    (arg3 : Memref sig .tc .vmem S64x2048 .f32) (harg3 : arg3.IsWhole) (arg4 : Memref sig .tc .vmem S64x128 .i32) (harg4 : arg4.IsWhole)
    (arg5 : Memref sig .tc .vmem S64x128 .f32) (harg5 : arg5.IsWhole) (arg6 : Memref sig .tc .vmem S64x128 .i32) (harg6 : arg6.IsWhole)
    (h0 : ¬isFirst i) (h1 : isLater i) (h2 : ¬isLast i)
    (x0 : Vec F S64x1x1x2048 .f32) (x1 : Vec F S1x2048 .f32) (x3 : Vec F S64x128 .i32) (s0 : Vec F S64x128 .f32) (s1 : Vec F S64x128 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare x3 ∗ owns (c : Thread nD τ) arg5 fullShare s0 ∗ owns (c : Thread nD τ) arg6 fullShare s1
        ∗ (iprop(owns (c : Thread nD τ) arg1 fullShare x0 ∗ owns (c : Thread nD τ) arg2 fullShare x1
              ∗ owns (c : Thread nD τ) arg3 fullShare (biased x0 x1) ∗ owns (c : Thread nD τ) arg4 fullShare x3
              ∗ owns (c : Thread nD τ) arg5 fullShare (nextMax i x0 x1 s0) ∗ owns (c : Thread nD τ) arg6 fullShare (nextArg i x0 x1 s0 s1)) -∗ K ⟨⟩))
      ⊢ wp frame (wpE (defs₀ (F := F)) Variants.none c none) E
          (cc0__body i arg1 harg1 arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, ⟨%f3, %hf3, H3⟩, ⟨%g0, %hg0, G0⟩, ⟨%g1, %hg1, G1⟩, Hk⟩
  obtain rfl := harg1.eq_unread hf0; obtain rfl := harg2.eq_unread hf1
  obtain rfl := harg4.eq_unread hf3; obtain rfl := harg5.eq_unread hg0; obtain rfl := harg6.eq_unread hg1
  sl_exec (disch := first | sl_exact h0 | sl_exact h1 | sl_exact h2)
  sl_step
  iapply Hk
  have l0 : arg1.view.readAt (Elt F) (Rect.unit (s := S64x1x1x2048) ![0, 0, 0, 0] ![64, 1, 1, 2048] inb_S64x1x1x2048_S64x1x1x2048_0_0_0_0).toLoadRect
      (harg1.unread x0) = x0 := (View.readAt_full _ _ _).trans (harg1.read_unread x0)
  have l1 : arg2.view.readAt (Elt F) (Rect.unit (s := S1x2048) ![0, 0] ![1, 2048] inb_S1x2048_S1x2048_0_0).toLoadRect
      (harg2.unread x1) = x1 := (View.readAt_full _ _ _).trans (harg2.read_unread x1)
  have l5 : arg5.view.readAt (Elt F) (Rect.unit (s := S64x128) ![0, 0] ![64, 128] inb_S64x128_S64x128_0_0).toLoadRect
      (harg5.unread s0) = s0 := (View.readAt_full _ _ _).trans (harg5.read_unread s0)
  have l5' : arg5.view.readAt (Elt F) (Rect.unit (s := S64x128) ![0, 0] ![64, 1] inb_S64x128_S64x1_0_0).toLoadRect
      (harg5.unread s0) = lane0 s0 := funext fun j => congrFun (harg5.read_unread s0) _
  have l6 : arg6.view.readAt (Elt F) (Rect.unit (s := S64x128) ![0, 0] ![64, 128] inb_S64x128_S64x128_0_0).toLoadRect
      (harg6.unread s1) = s1 := (View.readAt_full _ _ _).trans (harg6.read_unread s1)
  isplitl [H0]
  · iexists _; isplitr; · ipureintro; exact harg1.read_unread _
    iexact H0
  isplitl [H1]
  · iexists _; isplitr; · ipureintro; exact harg2.read_unread _
    iexact H1
  isplitl [H2]
  · iexists _; isplitr
    swap
    · iexact H2
    ipureintro
    rw [View.read_writes_full, View.readAt_full, View.readAt_full, hf0, hf1]; rfl
  isplitl [H3]
  · iexists _; isplitr; · ipureintro; exact harg4.read_unread _
    iexact H3
  isplitl [G0]
  · iexists _; isplitr
    swap
    · iexact G0
    ipureintro
    rw [View.read_writes_full]; dsimp only [run_middle.sl.r, run_middle.sl.r_1, run_middle.sl.r_2, run_middle.sl.r_3, run_middle.sl.r_4, run_middle.sl.r_5, run_middle.sl.r_6, run_middle.sl.r_7, run_middle.sl.r_8, run_middle.sl.r_9]; rw [l0, l1, l5', l5]; rfl
  · iexists _; isplitr
    swap
    · iexact G1
    ipureintro
    rw [View.read_writes_full]; dsimp only [run_middle.sl.r, run_middle.sl.r_1, run_middle.sl.r_2, run_middle.sl.r_3, run_middle.sl.r_4, run_middle.sl.r_5, run_middle.sl.r_6, run_middle.sl.r_7, run_middle.sl.r_8, run_middle.sl.r_9]; rw [l0, l1, l5', l6]; rfl

set_option maxHeartbeats 1000000 in
/-- The last point: as in the middle, and the updated columns are copied to the integer output's buffer. -/
theorem run_last (c : Dev nD) (i : grid0.Coords)
    (arg1 : Memref sig .tc .vmem S64x1x1x2048 .f32) (harg1 : arg1.IsWhole) (arg2 : Memref sig .tc .vmem S1x2048 .f32) (harg2 : arg2.IsWhole)
    (arg3 : Memref sig .tc .vmem S64x2048 .f32) (harg3 : arg3.IsWhole) (arg4 : Memref sig .tc .vmem S64x128 .i32) (harg4 : arg4.IsWhole)
    (arg5 : Memref sig .tc .vmem S64x128 .f32) (harg5 : arg5.IsWhole) (arg6 : Memref sig .tc .vmem S64x128 .i32) (harg6 : arg6.IsWhole)
    (h0 : ¬isFirst i) (h1 : isLater i) (h2 : isLast i)
    (x0 : Vec F S64x1x1x2048 .f32) (x1 : Vec F S1x2048 .f32) (s0 : Vec F S64x128 .f32) (s1 : Vec F S64x128 .i32)
    (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ owns (c : Thread nD τ) arg5 fullShare s0 ∗ owns (c : Thread nD τ) arg6 fullShare s1
        ∗ (iprop(owns (c : Thread nD τ) arg1 fullShare x0 ∗ owns (c : Thread nD τ) arg2 fullShare x1
              ∗ owns (c : Thread nD τ) arg3 fullShare (biased x0 x1) ∗ owns (c : Thread nD τ) arg4 fullShare (nextArg i x0 x1 s0 s1)
              ∗ owns (c : Thread nD τ) arg5 fullShare (nextMax i x0 x1 s0) ∗ owns (c : Thread nD τ) arg6 fullShare (nextArg i x0 x1 s0 s1)) -∗ K ⟨⟩))
      ⊢ wp frame (wpE (defs₀ (F := F)) Variants.none c none) E
          (cc0__body i arg1 harg1 arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, ⟨%d3, %f3, -, H3⟩, ⟨%g0, %hg0, G0⟩, ⟨%g1, %hg1, G1⟩, Hk⟩
  obtain rfl := harg1.eq_unread hf0; obtain rfl := harg2.eq_unread hf1
  obtain rfl := harg5.eq_unread hg0; obtain rfl := harg6.eq_unread hg1
  sl_exec (disch := first | sl_exact h0 | sl_exact h1 | sl_exact h2)
  sl_step
  iapply Hk
  have l0 : arg1.view.readAt (Elt F) (Rect.unit (s := S64x1x1x2048) ![0, 0, 0, 0] ![64, 1, 1, 2048] inb_S64x1x1x2048_S64x1x1x2048_0_0_0_0).toLoadRect
      (harg1.unread x0) = x0 := (View.readAt_full _ _ _).trans (harg1.read_unread x0)
  have l1 : arg2.view.readAt (Elt F) (Rect.unit (s := S1x2048) ![0, 0] ![1, 2048] inb_S1x2048_S1x2048_0_0).toLoadRect
      (harg2.unread x1) = x1 := (View.readAt_full _ _ _).trans (harg2.read_unread x1)
  have l5 : arg5.view.readAt (Elt F) (Rect.unit (s := S64x128) ![0, 0] ![64, 128] inb_S64x128_S64x128_0_0).toLoadRect
      (harg5.unread s0) = s0 := (View.readAt_full _ _ _).trans (harg5.read_unread s0)
  have l5' : arg5.view.readAt (Elt F) (Rect.unit (s := S64x128) ![0, 0] ![64, 1] inb_S64x128_S64x1_0_0).toLoadRect
      (harg5.unread s0) = lane0 s0 := funext fun j => congrFun (harg5.read_unread s0) _
  have l6 : arg6.view.readAt (Elt F) (Rect.unit (s := S64x128) ![0, 0] ![64, 128] inb_S64x128_S64x128_0_0).toLoadRect
      (harg6.unread s1) = s1 := (View.readAt_full _ _ _).trans (harg6.read_unread s1)
  isplitl [H0]
  · iexists _; isplitr; · ipureintro; exact harg1.read_unread _
    iexact H0
  isplitl [H1]
  · iexists _; isplitr; · ipureintro; exact harg2.read_unread _
    iexact H1
  isplitl [H2]
  · iexists _; isplitr
    swap
    · iexact H2
    ipureintro
    rw [View.read_writes_full, View.readAt_full, View.readAt_full, hf0, hf1]; rfl
  isplitl [H3]
  · iexists _; isplitr
    swap
    · iexact H3
    ipureintro
    rw [View.read_writes_full]; dsimp only [run_last.sl.v223, run_last.sl.G1_1, run_last.sl.r, run_last.sl.r_1, run_last.sl.r_2, run_last.sl.r_3, run_last.sl.r_4, run_last.sl.r_5, run_last.sl.r_6, run_last.sl.r_7, run_last.sl.r_8, run_last.sl.r_9]
    rw [View.readCov_full, l0, l1, l5', l6]; rfl
  isplitl [G0]
  · iexists _; isplitr
    swap
    · iexact G0
    ipureintro
    rw [View.read_writes_full]; dsimp only [run_last.sl.r, run_last.sl.r_1, run_last.sl.r_2, run_last.sl.r_3, run_last.sl.r_4, run_last.sl.r_5, run_last.sl.r_6, run_last.sl.r_7, run_last.sl.r_8, run_last.sl.r_9]; rw [l0, l1, l5', l5]; rfl
  · iexists _; isplitr
    swap
    · iexact G1
    ipureintro
    dsimp only [run_last.sl.G1_1, run_last.sl.r, run_last.sl.r_1, run_last.sl.r_2, run_last.sl.r_3, run_last.sl.r_4, run_last.sl.r_5, run_last.sl.r_6, run_last.sl.r_7, run_last.sl.r_8, run_last.sl.r_9]; rw [View.read_writes_full, l0, l1, l5', l6]; rfl

end Cert.KernelIdeal.Sampler

end
-- ==== Proof.KernelIdeal.Block.lean ====
/- The block of one grid point of `KernelIdeal`, read at an element: which of its columns lie inside the arrays, its
   masked logits, its scores, and that neither depends on what the staging buffers hold past the arrays' end. -/
module

public import proofs.«01_k».proof.Proof.KernelIdeal.Body
public import Idealize.ShloMosaic.Lib.Pointwise

@[expose] public section

set_option maxRecDepth 16384

noncomputable section

namespace Cert.KernelIdeal.Sampler

open Cert.KernelIdeal Cert.KernelIdeal.Gen
open Idealize.ShloMosaic
open Idealize.ShloMosaic.Pipeline (Window Clip)

variable {F : FTy → Type} [FloatOps F]

/-! ## The columns inside the arrays -/

/-- The columns of the block at coordinate `i` that lie inside the arrays. -/
theorem extent_cols (n : Nat) (h : n * 2048 < 100000) : (Clip.of n 2048 100000).extent 2048 = min 2048 (100000 - n * 2048) := by
  unfold Clip.of
  split
  · show 2048 = _; omega
  · show 100000 - n * 2048 = _; omega

theorem coord_lt (i : grid0.Coords) : (i 0).val < 49 := (i 0).isLt
theorem coord_word (i : grid0.Coords) : (BitVec.ofNat 32 (i 0).val).toNat = (i 0).val := by
  have := coord_lt i
  rw [BitVec.toNat_ofNat]; omega

theorem xsize0 (i : grid0.Coords) : win0_0.xsize i = ![64, 1, 1, min 2048 (100000 - (i 0).val * 2048)] := by
  funext a
  fin_cases a
  · rfl
  · rfl
  · rfl
  · show (Clip.of (BitVec.ofNat 32 (i 0).val).toNat 2048 100000).extent 2048 = _
    rw [coord_word, extent_cols _ (by have := coord_lt i; omega)]; rfl
theorem xsize1 (i : grid0.Coords) : win0_1.xsize i = ![1, min 2048 (100000 - (i 0).val * 2048)] := by
  funext a
  fin_cases a
  · rfl
  · show (Clip.of (BitVec.ofNat 32 (i 0).val).toNat 2048 100000).extent 2048 = _
    rw [coord_word, extent_cols _ (by have := coord_lt i; omega)]; rfl
theorem xsize2 (i : grid0.Coords) : win0_2.xsize i = ![64, min 2048 (100000 - (i 0).val * 2048)] := by
  funext a
  fin_cases a
  · rfl
  · show (Clip.of (BitVec.ofNat 32 (i 0).val).toNat 2048 100000).extent 2048 = _
    rw [coord_word, extent_cols _ (by have := coord_lt i; omega)]; rfl

/-- The column of the arrays that column `j` of the block at `i` is, when it is one. -/
def inside (i : grid0.Coords) (j : S64x2048.Idx) : Prop := (i 0).val * 2048 + (j 1).val < 100000

theorem moved0 (i : grid0.Coords) (j : S64x2048.Idx) (h : inside i j) : win0_0.moved i (ix4 (j 0) 0 0 (j 1)) = true := by
  rw [Window.moved_iff, xsize0]
  intro a
  have h0 : (j 0).val < 64 := (j 0).isLt
  have h1 : (j 1).val < 2048 := (j 1).isLt
  unfold inside at h
  fin_cases a
  · exact h0
  · exact Nat.one_pos
  · exact Nat.one_pos
  · show (j 1).val < min 2048 (100000 - (i 0).val * 2048); omega
theorem moved1 (i : grid0.Coords) (j : S64x2048.Idx) (h : inside i j) : win0_1.moved i (ix2 0 (j 1)) = true := by
  rw [Window.moved_iff, xsize1]
  intro a
  have h1 : (j 1).val < 2048 := (j 1).isLt
  unfold inside at h
  fin_cases a
  · exact Nat.one_pos
  · show (j 1).val < min 2048 (100000 - (i 0).val * 2048); omega
theorem inside_of_moved (i : grid0.Coords) (j : S64x2048.Idx) (h : win0_2.moved i j = true) : inside i j := by
  rw [Window.moved_iff, xsize2] at h
  have h1 : (j 1).val < min 2048 (100000 - (i 0).val * 2048) := h 1
  unfold inside; omega

/-- A filled buffer holds the same on the moved part whatever it held before. -/
theorem fill_moved {α : Type} (w : Window sig grid0) (i : grid0.Coords) (d d' : w.block.Idx → α) (g : (w.xblock i).Idx → α)
    {j : w.block.Idx} (h : w.moved i j = true) : w.fill i d g j = w.fill i d' g j := by
  unfold Window.fill; rw [dif_pos h, dif_pos h]

theorem biased_apply (x0 : Vec F S64x1x1x2048 .f32) (x1 : Vec F S1x2048 .f32) (j : S64x2048.Idx) :
    biased x0 x1 j = FloatOps.addf (x0 (ix4 (j 0) 0 0 (j 1))) (x1 (ix2 0 (j 1))) := by
  pointwise [biased, k0_pay4]

/-- The noise the block at `i` adds at `j`, and the least score. -/
def noise (i : grid0.Coords) (j : S64x2048.Idx) : F .f32 :=
  (FloatOps.subf (FloatOps.ofBits FTy.f32 0#32)
          (FloatOps.log
            (FloatOps.subf (FloatOps.ofBits FTy.f32 0#32)
              (FloatOps.log
                (FloatOps.maximumf
                  (FloatOps.subf
                    (FloatOps.ofBits FTy.f32
                      (IntOp.ori
                        (IntOp.shrui ArithUnit.vector
                          (IntOp.xori (IntOp.addi (endA i j) 466689008#32) (IntOp.addi (endB i j) 5#32)) 9#32)
                        1065353216#32))
                    (FloatOps.ofBits FTy.f32 1065353216#32))
                  (FloatOps.ofBits FTy.f32 8388608#32))))))

theorem scored_apply (i : grid0.Coords) (x0 : Vec F S64x1x1x2048 .f32) (x1 : Vec F S1x2048 .f32) (j : S64x2048.Idx) :
    scored i x0 x1 j = Scalar.select (IntOp.cmpi CmpIPredicate.slt (k0_pay5 i j) 100000#32) (FloatOps.addf (biased x0 x1 j) (noise i j))
      (FloatOps.ofBits FTy.f32 4286578688#32) := by
  pointwise [scored, k0_pay50]
  rfl

theorem col_apply (i : grid0.Coords) (j : S64x2048.Idx) : k0_pay5 i j = BitVec.ofNat 32 ((i 0).val * 2048 + (j 1).val) := by
  have h1 : (j 1).val < 2048 := (j 1).isLt
  have := coord_lt i
  pointwise [k0_pay5]
  show BitVec.ofNat 32 (j 1).val + BitVec.ofNat 32 (i 0).val * 2048#32 = _
  apply BitVec.eq_of_toNat_eq
  simp only [BitVec.toNat_add, BitVec.toNat_mul, BitVec.toNat_ofNat]
  omega

theorem col_lt (i : grid0.Coords) (j : S64x2048.Idx) :
    IntOp.cmpi CmpIPredicate.slt (k0_pay5 i j) 100000#32 = BitVec.ofBool (decide ((i 0).val * 2048 + (j 1).val < 100000)) := by
  have h1 : (j 1).val < 2048 := (j 1).isLt
  have := coord_lt i
  rw [col_apply, WordCmp.cmpi_slt_eq, WordCmp.toInt_ofNat_of_lt (by omega), show (100000#32).toInt = 100000 from rfl]
  exact congrArg BitVec.ofBool (decide_eq_decide.mpr (by omega))

/-- The score at an element of the block: inside the arrays, masked logit plus noise; past their end, the least. -/
theorem scored_inside (i : grid0.Coords) (x0 : Vec F S64x1x1x2048 .f32) (x1 : Vec F S1x2048 .f32) (j : S64x2048.Idx)
    (h : inside i j) : scored i x0 x1 j = FloatOps.addf (biased x0 x1 j) (noise i j) := by
  rw [scored_apply, col_lt, decide_eq_true (show (i 0).val * 2048 + (j 1).val < 100000 from h)]; rfl
theorem scored_outside (i : grid0.Coords) (x0 : Vec F S64x1x1x2048 .f32) (x1 : Vec F S1x2048 .f32) (j : S64x2048.Idx)
    (h : ¬inside i j) : scored i x0 x1 j = FloatOps.ofBits FTy.f32 4286578688#32 := by
  rw [scored_apply, col_lt, decide_eq_false (show ¬(i 0).val * 2048 + (j 1).val < 100000 from h)]; rfl

/-! ## What the buffers hold past the arrays' end does not matter -/

variable (i : grid0.Coords) (d0 e0 : Vec F S64x1x1x2048 .f32) (d1 e1 : Vec F S1x2048 .f32)
  (g0 : (win0_0.xblock i).Idx → F .f32) (g1 : (win0_1.xblock i).Idx → F .f32)

theorem biased_fill (j : S64x2048.Idx) (h : inside i j) :
    biased (F := F) (win0_0.fill i d0 g0) (win0_1.fill i d1 g1) j = biased (F := F) (win0_0.fill i e0 g0) (win0_1.fill i e1 g1) j := by
  rw [biased_apply, biased_apply]
  exact congrArg₂ FloatOps.addf (fill_moved win0_0 i d0 e0 g0 (moved0 i j h)) (fill_moved win0_1 i d1 e1 g1 (moved1 i j h))

theorem biased_cut : win0_2.cut i (biased (F := F) (win0_0.fill i d0 g0) (win0_1.fill i d1 g1))
    = win0_2.cut i (biased (F := F) (win0_0.fill i e0 g0) (win0_1.fill i e1 g1)) :=
  funext fun j => biased_fill i d0 e0 d1 e1 g0 g1 _ (inside_of_moved i _ (win0_2.moved_xinj i j))

theorem scored_fill : scored (F := F) i (win0_0.fill i d0 g0) (win0_1.fill i d1 g1)
    = scored (F := F) i (win0_0.fill i e0 g0) (win0_1.fill i e1 g1) := by
  funext j
  by_cases h : inside i j
  · rw [scored_inside i _ _ j h, scored_inside i _ _ j h, biased_fill i d0 e0 d1 e1 g0 g1 j h]
  · rw [scored_outside i _ _ j h, scored_outside i _ _ j h]

variable (x0 y0 : Vec F S64x1x1x2048 .f32) (x1 y1 : Vec F S1x2048 .f32) (s0 : Vec F S64x128 .f32) (s1 : Vec F S64x128 .i32)

/-- What a point stores into the scratch buffers depends on its block through the scores alone. -/
theorem blockMax_congr (h : scored i x0 x1 = scored i y0 y1) : blockMax i x0 x1 = blockMax i y0 y1 := by
  unfold scored at h; unfold blockMax k0_pay51; rw [h]
theorem blockMaxRow_congr (h : scored i x0 x1 = scored i y0 y1) : blockMaxRow i x0 x1 = blockMaxRow i y0 y1 := by
  unfold blockMaxRow k0_pay52; rw [show k0_pay51 _ _ _ _ = _ from blockMax_congr i x0 y0 x1 y1 h]; rfl
theorem blockArgRow_congr (h : scored i x0 x1 = scored i y0 y1) : blockArgRow i x0 x1 = blockArgRow i y0 y1 := by
  have hm : k0_pay51 (biased x0 x1) (k0_pay5 i) (endA i) (endB i) = k0_pay51 (biased y0 y1) (k0_pay5 i) (endA i) (endB i) :=
    blockMax_congr i x0 y0 x1 y1 h
  unfold scored at h; unfold blockArgRow k0_pay53; rw [h, hm]
theorem firstMax_congr (h : scored i x0 x1 = scored i y0 y1) : firstMax i x0 x1 = firstMax i y0 y1 := by
  unfold firstMax k0_pay54; rw [show k0_pay52 _ _ _ _ = _ from blockMaxRow_congr i x0 y0 x1 y1 h]; rfl
theorem firstArg_congr (h : scored i x0 x1 = scored i y0 y1) : firstArg i x0 x1 = firstArg i y0 y1 := by
  unfold firstArg k0_pay55; rw [show k0_pay53 _ _ _ _ = _ from blockArgRow_congr i x0 y0 x1 y1 h]; rfl
theorem nextMax_congr (h : scored i x0 x1 = scored i y0 y1) : nextMax i x0 x1 s0 = nextMax i y0 y1 s0 := by
  unfold nextMax; rw [blockMax_congr i x0 y0 x1 y1 h, blockMaxRow_congr i x0 y0 x1 y1 h]
theorem nextArg_congr (h : scored i x0 x1 = scored i y0 y1) : nextArg i x0 x1 s0 s1 = nextArg i y0 y1 s0 s1 := by
  unfold nextArg; rw [blockMax_congr i x0 y0 x1 y1 h, blockArgRow_congr i x0 y0 x1 y1 h]

end Cert.KernelIdeal.Sampler

end
-- ==== Proof.KernelIdeal.Region.lean ====
/- The pipeline of `KernelIdeal`: what every point leaves in the staging and scratch buffers, the body's obligation at a
   generic point, the run of @main and the frame. -/
module

public import proofs.«01_k».proof.Proof.KernelIdeal.Block
public import Idealize.ShloMosaic.Lib.Claim

@[expose] public section

set_option maxRecDepth 16384

noncomputable section

namespace Cert.KernelIdeal.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The two input blocks at a point, over a staging buffer of zeros. -/
def lblk (c : Dev nD) (t : Fin cfg0.N) : Vec F S64x1x1x2048 .f32 :=
  win0_0.fill (grid0.coords t) (fun _ => FloatOps.ofBits .f32 0#32) (iblk m c 0 t)
def mblk (c : Dev nD) (t : Fin cfg0.N) : Vec F S1x2048 .f32 :=
  win0_1.fill (grid0.coords t) (fun _ => FloatOps.ofBits .f32 0#32) (iblk m c 1 t)

/-- The two scratch buffers after each point. -/
def scr (c : Dev nD) : (n : ℕ) → n < cfg0.N → Vec F S64x128 .f32 × Vec F S64x128 .i32
  | 0, h => (firstMax (grid0.coords ⟨0, h⟩) (lblk m c ⟨0, h⟩) (mblk m c ⟨0, h⟩),
      firstArg (grid0.coords ⟨0, h⟩) (lblk m c ⟨0, h⟩) (mblk m c ⟨0, h⟩))
  | n + 1, h => (nextMax (grid0.coords ⟨n + 1, h⟩) (lblk m c ⟨n + 1, h⟩) (mblk m c ⟨n + 1, h⟩) (scr c n (Nat.lt_of_succ_lt h)).1,
      nextArg (grid0.coords ⟨n + 1, h⟩) (lblk m c ⟨n + 1, h⟩) (mblk m c ⟨n + 1, h⟩) (scr c n (Nat.lt_of_succ_lt h)).1
        (scr c n (Nat.lt_of_succ_lt h)).2)

theorem scr_first (c : Dev nD) (t : Fin cfg0.N) (h : t.val = 0) :
    scr m c t.val t.isLt = (firstMax (grid0.coords t) (lblk m c t) (mblk m c t), firstArg (grid0.coords t) (lblk m c t) (mblk m c t)) := by
  obtain ⟨n, hn⟩ := t
  obtain rfl : n = 0 := h
  rfl
theorem scr_later (c : Dev nD) (t : Fin cfg0.N) (h : t.val ≠ 0) :
    scr m c t.val t.isLt
      = (nextMax (grid0.coords t) (lblk m c t) (mblk m c t) (scr m c (t.val - 1) (lt_of_le_of_lt (Nat.sub_le _ _) t.isLt)).1,
        nextArg (grid0.coords t) (lblk m c t) (mblk m c t) (scr m c (t.val - 1) (lt_of_le_of_lt (Nat.sub_le _ _) t.isLt)).1
          (scr m c (t.val - 1) (lt_of_le_of_lt (Nat.sub_le _ _) t.isLt)).2) := by
  obtain ⟨n, hn⟩ := t
  cases n with
  | zero => exact absurd rfl h
  | succ n => rfl

/-! ## The region's invariant -/

abbrev scrA : Memref sig .tc .vmem S64x128 .f32 := Memref.whole cc0_scratch0
abbrev scrB : Memref sig .tc .vmem S64x128 .i32 := Memref.whole cc0_scratch1

/-- The scoped buffers the pipeline does not stage are the two scratch buffers. -/
theorem scoped_scratch (c : Dev nD) : (Pipeline.ΦA spec0 c : sProp 𝕄)
    = iprop(iprop((∃ d, owns (c : Thread nD τ) scrA fullShare d) ∗ (∃ d, owns (c : Thread nD τ) scrB fullShare d)) ∗ (∃ r, prngReg c r)) := by
  unfold Pipeline.ΦA; rw [scopedRest0_eq]; simp only [scrA, scrB, owns_whole]; try rfl

/-- Before point `n`: nothing is known of the scratch at the first, what the point before left at the others. -/
def inv (c : Dev nD) : (n : ℕ) → n ≤ cfg0.N → sProp 𝕄
  | 0, _ => Pipeline.ΦA spec0 c
  | n + 1, h => iprop(iprop(owns (c : Thread nD τ) scrA fullShare (scr m c n h).1 ∗ owns (c : Thread nD τ) scrB fullShare (scr m c n h).2)
      ∗ (∃ r, prngReg c r))

theorem inv_zero (c : Dev nD) (n : ℕ) (h : n ≤ cfg0.N) (hz : n = 0) : inv m c n h = Pipeline.ΦA spec0 c := by subst hz; rfl
theorem inv_pos (c : Dev nD) (n : ℕ) (h : n ≤ cfg0.N) (hz : n ≠ 0) :
    inv m c n h = iprop(iprop(owns (c : Thread nD τ) scrA fullShare (scr m c (n - 1) (by omega)).1
      ∗ owns (c : Thread nD τ) scrB fullShare (scr m c (n - 1) (by omega)).2) ∗ (∃ r, prngReg c r)) := by
  cases n with
  | zero => exact absurd rfl hz
  | succ n => rfl

/-- The proof data: the arrays as the region finds them, what each point leaves in each staging buffer, the invariant. -/
def dats (_ : Fin 1) (c : Dev nD) : Dat τ (Elt F) Unit ℕ (UR sig nD τ) ℕ cfg0 c where
  A w := V m c (Pipeline.arrRef spec0 w)
  after w t := match w with
    | ⟨0, _⟩ => lblk m c t
    | ⟨1, _⟩ => mblk m c t
    | ⟨2, _⟩ => biased (lblk m c t) (mblk m c t)
    | ⟨3, _⟩ => (scr m c t.val t.isLt).2
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_start (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = lblk m c t := by dsimp only [dats]
theorem after_1 (c : Dev nD) (t : Fin cfg0.N) : (dats m 0 c).after 1 t = mblk m c t := by dsimp only [dats]
theorem after_2 (c : Dev nD) (t : Fin cfg0.N) : (dats m 0 c).after 2 t = biased (lblk m c t) (mblk m c t) := by dsimp only [dats]
theorem after_3 (c : Dev nD) (t : Fin cfg0.N) : (dats m 0 c).after 3 t = (scr m c t.val t.isLt).2 := by dsimp only [dats]

/-- An input's staging buffer holds its block where the fetch filled it, anything elsewhere. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl

/-! ## The body's obligation -/

abbrev stage0 (t : Fin cfg0.N) : Memref sig .tc .vmem S64x1x1x2048 .f32 := win0_0.stage (cfg0.slots t 0)
abbrev stage1 (t : Fin cfg0.N) : Memref sig .tc .vmem S1x2048 .f32 := win0_1.stage (cfg0.slots t 1)
abbrev stage2 (t : Fin cfg0.N) : Memref sig .tc .vmem S64x2048 .f32 := win0_2.stage (cfg0.slots t 2)
abbrev stage3 (t : Fin cfg0.N) : Memref sig .tc .vmem S64x128 .i32 := win0_3.stage (cfg0.slots t 3)

/-- Away from the last point the integer output is idle and not written back; at it, it is live. -/
theorem idle_3 (t : Fin cfg0.N) (h : ¬t.val = 48) : cfg0.idle 3 (grid0.coords t) = true := by
  show (!(k0_cond3 (grid0.coords t) == 1#1)) = true
  rw [Bool.not_eq_true', beq_eq_false_iff_ne]
  exact fun he => h ((isLast_iff t).mp he)
theorem live_3 (t : Fin cfg0.N) (h : t.val = 48) : cfg0.idle 3 (grid0.coords t) = false := by
  show (!(k0_cond3 (grid0.coords t) == 1#1)) = false
  rw [Bool.not_eq_false', beq_iff_eq]
  exact (isLast_iff t).mpr h
theorem noflush_3 (t : Fin cfg0.N) (h : ¬t.val = 48) : (cfg0.win 3).flush t = false := by
  have hN : t.val < 49 := lt_of_lt_of_eq t.isLt (show cfg0.N = 49 from N_0)
  rw [← Bool.not_eq_true]
  exact fun he => h (by have := (flush0_3 t).mp he; omega)

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d)))
/-- and what it returns. -/
def post (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

theorem leaves_0 (c : Dev nD) (t : Fin cfg0.N) (d) :
    owns (c : Thread nD τ) (stage0 t) fullShare (win0_0.fill (grid0.coords t) d (iblk m c 0 t)) ⊢ ((dats m 0 c).leaves 0 t : sProp 𝕄) := by
  have h : win0_0.cut (grid0.coords t) ((dats m 0 c).after 0 t) = iblk m c 0 t := by rw [after_0]; exact win0_0.cut_fill _ _ _
  rw [← h]
  change _ ⊢ iprop(∃ d, owns (c : Thread nD τ) (stage0 t) fullShare (win0_0.fill (grid0.coords t) d (win0_0.cut (grid0.coords t) ((dats m 0 c).after 0 t))))
  iintro H; iexists d; iexact H
theorem leaves_1 (c : Dev nD) (t : Fin cfg0.N) (d) :
    owns (c : Thread nD τ) (stage1 t) fullShare (win0_1.fill (grid0.coords t) d (iblk m c 1 t)) ⊢ ((dats m 0 c).leaves 1 t : sProp 𝕄) := by
  have h : win0_1.cut (grid0.coords t) ((dats m 0 c).after 1 t) = iblk m c 1 t := by rw [after_1]; exact win0_1.cut_fill _ _ _
  rw [← h]
  change _ ⊢ iprop(∃ d, owns (c : Thread nD τ) (stage1 t) fullShare (win0_1.fill (grid0.coords t) d (win0_1.cut (grid0.coords t) ((dats m 0 c).after 1 t))))
  iintro H; iexists d; iexact H
theorem leaves_2 (c : Dev nD) (t : Fin cfg0.N) (d0 d1) :
    owns (c : Thread nD τ) (stage2 t) fullShare
      (biased (win0_0.fill (grid0.coords t) d0 (iblk m c 0 t)) (win0_1.fill (grid0.coords t) d1 (iblk m c 1 t)))
      ⊢ ((dats m 0 c).leaves 2 t : sProp 𝕄) := by
  have h : win0_2.cut (grid0.coords t) (biased (F := F) (win0_0.fill (grid0.coords t) d0 (iblk m c 0 t)) (win0_1.fill (grid0.coords t) d1 (iblk m c 1 t)))
      = win0_2.cut (grid0.coords t) ((dats m 0 c).after 2 t) := by
    rw [after_2]; exact biased_cut (grid0.coords t) _ _ _ _ _ _
  rw [← win0_2.fill_congr_cut (grid0.coords t) h]
  change _ ⊢ iprop(∃ d, owns (c : Thread nD τ) (stage2 t) fullShare (win0_2.fill (grid0.coords t) d (win0_2.cut (grid0.coords t) ((dats m 0 c).after 2 t))))
  iintro H; iexists _; iexact H
theorem leaves_3_idle (c : Dev nD) (t : Fin cfg0.N) (h : ¬t.val = 48) (d) :
    owns (c : Thread nD τ) (stage3 t) fullShare ((dats m 0 c).before 3 t d) ⊢ ((dats m 0 c).leaves 3 t : sProp 𝕄) := by
  unfold Dat.leaves; rw [idle_3 t h, noflush_3 t h]
  iintro H; iexists d; iexact H
theorem leaves_3_last (c : Dev nD) (t : Fin cfg0.N) (h : t.val = 48) :
    owns (c : Thread nD τ) (stage3 t) fullShare (scr m c t.val t.isLt).2 ⊢ ((dats m 0 c).leaves 3 t : sProp 𝕄) := by
  unfold Dat.leaves; rw [live_3 t h, after_3]

/-- The scores of the block, whatever the staging buffers held before the fetch. -/
theorem scored_blk (c : Dev nD) (t : Fin cfg0.N) (d0 d1) :
    scored (F := F) (grid0.coords t) (win0_0.fill (grid0.coords t) d0 (iblk m c 0 t)) (win0_1.fill (grid0.coords t) d1 (iblk m c 1 t))
      = scored (grid0.coords t) (lblk m c t) (mblk m c t) := scored_fill (grid0.coords t) _ _ _ _ _ _

set_option maxHeartbeats 4000000 in
/-- The body at any point: the first, one in the middle, or the last. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1]
  rw [show (dats m 0 c).owesAt () t.succ = (dats m 0 c).owesAt () t.castSucc from rfl,
    show (dats m 0 c).Φ t.succ = iprop(iprop(owns (c : Thread nD τ) scrA fullShare (scr m c t.val t.isLt).1
      ∗ owns (c : Thread nD τ) scrB fullShare (scr m c t.val t.isLt).2) ∗ (∃ r, prngReg c r)) from rfl, inv_start]
  have hN : t.val < 49 := lt_of_lt_of_eq t.isLt (show cfg0.N = 49 from N_0)
  by_cases hz : t.val = 0
  · rw [inv_zero m c _ _ hz, scoped_scratch, scr_first m c t hz]
    dsimp only
    iintro ⟨⟨⟨HS0, HS1⟩, Hg⟩, Ho, ⟨%d0, H0⟩, ⟨%d1, H1⟩, ⟨%d2, H2⟩, ⟨%d3, H3⟩⟩
    iapply (run_first c (grid0.coords t) _ _ _ _ _ _ _ _ _ _ _ _ ((isFirst_iff t).mpr hz) (fun h => by have := (isLater_iff t).mp h; omega)
      (fun h => by have := (isLast_iff t).mp h; omega) _ _ _ Set.univ _)
    isplitl [H0]; · iexact H0
    isplitl [H1]; · iexact H1
    isplitl [H2]; · iexists _; iexact H2
    isplitl [H3]; · iexact H3
    isplitl [HS0]; · iexact HS0
    isplitl [HS1]; · iexact HS1
    rw [firstMax_congr _ _ _ _ _ (scored_blk m c t d0 d1), firstArg_congr _ _ _ _ _ (scored_blk m c t d0 d1)]
    iintro ⟨H0, H1, H2, H3, HS0, HS1⟩
    isplitl [HS0 HS1 Hg]
    · isplitl [HS0 HS1]
      · isplitl [HS0]
        · iexact HS0
        iexact HS1
      iexact Hg
    isplitl [Ho]; · iexact Ho
    isplitl [H0]; · iapply (leaves_0 m c t d0); iexact H0
    isplitl [H1]; · iapply (leaves_1 m c t d1); iexact H1
    isplitl [H2]; · iapply (leaves_2 m c t d0 d1); iexact H2
    iapply (leaves_3_idle m c t (by omega) d3); iexact H3
  · rw [inv_pos m c _ _ hz]
    have hl := scr_later m c t hz
    by_cases h2 : t.val = 48
    · iintro ⟨⟨⟨HS0, HS1⟩, Hg⟩, Ho, ⟨%d0, H0⟩, ⟨%d1, H1⟩, ⟨%d2, H2⟩, ⟨%d3, H3⟩⟩
      iapply (run_last c (grid0.coords t) _ _ _ _ _ _ _ _ _ _ _ _ (fun h => hz ((isFirst_iff t).mp h)) ((isLater_iff t).mpr (by omega))
        ((isLast_iff t).mpr h2) _ _ _ _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      rw [nextMax_congr _ _ _ _ _ _ (scored_blk m c t d0 d1), nextArg_congr _ _ _ _ _ _ _ (scored_blk m c t d0 d1)]
      iintro ⟨H0, H1, H2, H3, HS0, HS1⟩
      isplitl [HS0 HS1 Hg]
      · isplitl [HS0 HS1]
        · isplitl [HS0]
          · rw [hl]; iexact HS0
          rw [hl]; iexact HS1
        iexact Hg
      isplitl [Ho]; · iexact Ho
      isplitl [H0]; · iapply (leaves_0 m c t d0); iexact H0
      isplitl [H1]; · iapply (leaves_1 m c t d1); iexact H1
      isplitl [H2]; · iapply (leaves_2 m c t d0 d1); iexact H2
      iapply (leaves_3_last m c t h2); rw [hl]; iexact H3
    · iintro ⟨⟨⟨HS0, HS1⟩, Hg⟩, Ho, ⟨%d0, H0⟩, ⟨%d1, H1⟩, ⟨%d2, H2⟩, ⟨%d3, H3⟩⟩
      iapply (run_middle c (grid0.coords t) _ _ _ _ _ _ _ _ _ _ _ _ (fun h => hz ((isFirst_iff t).mp h)) ((isLater_iff t).mpr (by omega))
        (fun h => h2 ((isLast_iff t).mp h)) _ _ _ _ _ Set.univ _)
      isplitl [H0]; · iexact H0
      isplitl [H1]; · iexact H1
      isplitl [H2]; · iexists _; iexact H2
      isplitl [H3]; · iexact H3
      isplitl [HS0]; · iexact HS0
      isplitl [HS1]; · iexact HS1
      rw [nextMax_congr _ _ _ _ _ _ (scored_blk m c t d0 d1), nextArg_congr _ _ _ _ _ _ _ (scored_blk m c t d0 d1)]
      iintro ⟨H0, H1, H2, H3, HS0, HS1⟩
      isplitl [HS0 HS1 Hg]
      · isplitl [HS0 HS1]
        · isplitl [HS0]
          · rw [hl]; iexact HS0
          rw [hl]; iexact HS1
        iexact Hg
      isplitl [Ho]; · iexact Ho
      isplitl [H0]; · iapply (leaves_0 m c t d0); iexact H0
      isplitl [H1]; · iapply (leaves_1 m c t d1); iexact H1
      isplitl [H2]; · iapply (leaves_2 m c t d0 d1); iexact H2
      iapply (leaves_3_idle m c t h2 d3); iexact H3

/-- The body the loop calls at a point is the body on its current staging buffers. -/
theorem body_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, body_row]
  exact triple_restated (body_at m c t) rfl .rfl fun _ => .rfl

/-! ## The run and the frame -/

theorem inv_in (c : Dev nD) : Pipeline.ΦA spec0 c ⊢ (dats m 0 c).Φ 0 := by
  rw [show (dats m 0 c).Φ 0 = inv m c 0 (Nat.zero_le _) from rfl, inv_zero m c 0 _ rfl]
theorem inv_out (c : Dev nD) : (dats m 0 c).Φ (Fin.last cfg0.N) ⊢ Pipeline.ΦA spec0 c := by
  have hN : (Fin.last cfg0.N).val ≠ 0 := by rw [Fin.val_last]; have : cfg0.N = 49 := N_0; omega
  rw [show (dats m 0 c).Φ (Fin.last cfg0.N) = inv m c (Fin.last cfg0.N).val (Nat.le_of_lt_succ (Fin.last cfg0.N).isLt) from rfl,
    inv_pos m c _ _ hN, scoped_scratch]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- Every execution of @main ends with the pipeline's arrays at what the proof data says, everything else as the lines
    after the region leave it, and no semaphore count left. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: the arguments end as they were, and every semaphore count is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Sampler

end
-- ==== Proof.Best.lean ====
/- The first place of the largest value. Both programs look for the same thing in every row of scores: the largest value
   and the first column where it stands. `IsBest f n M a` says it of the first `n` values of `f`. Such a pair is unique,
   so two programs that both find one agree. -/
module

public import Idealize.ShloMosaic.PureOps
public import Idealize.ShloMosaic.PureOps.Ideal.Laws

@[expose] public section

namespace Cert.Sampler

/-- `M` is the largest of `f 0, …, f (n - 1)` and `a` is the first place where it stands. -/
structure IsBest (f : ℕ → EReal) (n : ℕ) (M : EReal) (a : ℕ) : Prop where
  lt : a < n
  eq : f a = M
  le : ∀ j, j < n → f j ≤ M
  first : ∀ j, j < n → f j = M → a ≤ j

namespace IsBest
variable {f g : ℕ → EReal} {n k a b : ℕ} {M M' : EReal}

/-- There is only one such place. -/
theorem unique_value (h : IsBest f n M a) (h' : IsBest f n M' b) : M = M' :=
  le_antisymm (h.eq ▸ h'.le a h.lt) (h'.eq ▸ h.le b h'.lt)
theorem unique (h : IsBest f n M a) (h' : IsBest f n M' b) : a = b := by
  obtain rfl := h.unique_value h'
  exact le_antisymm (h.first b h'.lt h'.eq) (h'.first a h.lt h.eq)

/-- The values past the first `n` do not matter. -/
theorem congr (h : IsBest f n M a) (e : ∀ j, j < n → g j = f j) : IsBest g n M a :=
  ⟨h.lt, (e a h.lt).trans h.eq, fun j hj => (e j hj).trans_le (h.le j hj),
    fun j hj hm => h.first j hj ((e j hj).symm.trans hm)⟩

/-- Of two stretches one after the other, the later one's place is taken only when its largest value is
    strictly larger. -/
theorem append (h : IsBest f n M a) (h' : IsBest (fun j => f (n + j)) k M' b) :
    IsBest f (n + k) (if M < M' then M' else M) (if M < M' then n + b else a) := by
  have far : ∀ j, j < n + k → ¬ j < n → f j ≤ M' := fun j hj hn => by
    have := h'.le (j - n) (by omega)
    rwa [Nat.add_sub_cancel' (by omega)] at this
  split
  · next hlt =>
    refine ⟨by have := h'.lt; omega, h'.eq, fun j hj => ?_, fun j hj hm => ?_⟩
    · by_cases hn : j < n
      · exact (h.le j hn).trans hlt.le
      · exact far j hj hn
    · by_cases hn : j < n
      · exact absurd (hm ▸ h.le j hn) (not_le.2 hlt)
      · have := h'.first (j - n) (by omega) (by
          show f (n + (j - n)) = M'
          rw [Nat.add_sub_cancel' (by omega)]; exact hm)
        omega
  · next hlt =>
    refine ⟨by have := h.lt; omega, h.eq, fun j hj => ?_, fun j hj hm => ?_⟩
    · by_cases hn : j < n
      · exact h.le j hn
      · exact (far j hj hn).trans (not_lt.1 hlt)
    · by_cases hn : j < n
      · exact h.first j hn hm
      · have := h.lt; omega

/-- A tail of minus infinities can be cut off. -/
theorem cut (h : IsBest f n M a) (hk : 0 < k) (hkn : k ≤ n) (tail : ∀ j, k ≤ j → j < n → f j = ⊥) :
    IsBest f k M a := by
  refine ⟨?_, h.eq, fun j hj => h.le j (by omega), fun j hj => h.first j (by omega)⟩
  by_contra ha
  have hM : M = ⊥ := h.eq.symm.trans (tail a (by omega) h.lt)
  have := h.first 0 (by omega) (by rw [hM]; exact le_bot_iff.1 (hM ▸ h.le 0 (by omega)))
  omega

end IsBest

/-! ## A largest and a smallest by folding -/

theorem fold_max_bounds {ι : Type} [DecidableEq ι] (s : Finset ι) (hs : s.Nonempty) (f : ι → EReal) :
    (∀ i ∈ s, f i ≤ s.fold max ⊥ f) ∧ ∃ i ∈ s, s.fold max ⊥ f = f i := by
  have up : ∀ i ∈ s, f i ≤ s.fold max ⊥ f := fun i hi => (Finset.le_fold_max _).2 (.inr ⟨i, hi, le_rfl⟩)
  refine ⟨up, ?_⟩
  rcases (Finset.le_fold_max (b := ⊥) (f := f) (s := s) (s.fold max ⊥ f)).1 le_rfl with h | ⟨i, hi, h⟩
  · obtain ⟨i, hi⟩ := hs
    exact ⟨i, hi, le_antisymm (h.trans bot_le) (up i hi)⟩
  · exact ⟨i, hi, le_antisymm h (up i hi)⟩

open Idealize.ShloMosaic in
/-- The same for the smallest of signed words, which may also be the word it starts from. -/
theorem fold_minsi_bounds {ι : Type} [DecidableEq ι] (s : Finset ι) (f : ι → BitVec 32) (z : BitVec 32) :
    (s.fold IKind.minsi.op z f = z ∨ ∃ i ∈ s, s.fold IKind.minsi.op z f = f i)
      ∧ (s.fold IKind.minsi.op z f).toInt ≤ z.toInt ∧ ∀ i ∈ s, (s.fold IKind.minsi.op z f).toInt ≤ (f i).toInt := by
  have small : ∀ x y : BitVec 32, (IKind.minsi.op x y = x ∨ IKind.minsi.op x y = y)
      ∧ (IKind.minsi.op x y).toInt ≤ x.toInt ∧ (IKind.minsi.op x y).toInt ≤ y.toInt := fun x y => by
    show ((if x.slt y then x else y) = x ∨ (if x.slt y then x else y) = y)
      ∧ (if x.slt y then x else y).toInt ≤ x.toInt ∧ (if x.slt y then x else y).toInt ≤ y.toInt
    by_cases h : x.toInt < y.toInt
    · rw [if_pos (by rw [BitVec.slt_eq_decide]; exact decide_eq_true h)]
      exact ⟨.inl rfl, le_rfl, h.le⟩
    · rw [if_neg (by rw [BitVec.slt_eq_decide]; simpa using h)]
      exact ⟨.inr rfl, not_lt.1 h, le_rfl⟩
  induction s using Finset.induction_on with
  | empty => rw [Finset.fold_empty]; exact ⟨.inl rfl, le_rfl, fun i hi => absurd hi (Finset.notMem_empty i)⟩
  | insert a s has ih =>
    obtain ⟨h1, h2, h3⟩ := ih
    rw [Finset.fold_insert has]
    obtain ⟨g1, g2, g3⟩ := small (f a) (s.fold IKind.minsi.op z f)
    refine ⟨?_, g3.trans h2, fun i hi => ?_⟩
    · rcases g1 with g1 | g1
      · exact .inr ⟨a, Finset.mem_insert_self a s, g1⟩
      · rcases h1 with h1 | ⟨i, hi, h1⟩
        · exact .inl (g1.trans h1)
        · exact .inr ⟨i, Finset.mem_insert_of_mem hi, g1.trans h1⟩
    · rcases Finset.mem_insert.1 hi with rfl | hi
      · exact g2
      · exact g3.trans (h3 i hi)

/-! ## Taking the better of two pairs, all along a list -/

/-- The pair with the larger value, and at a tie the one with the smaller place. -/
noncomputable def better (p q : EReal × BitVec 32) : EReal × BitVec 32 :=
  open Classical in if q.1 < p.1 ∨ (p.1 = q.1 ∧ p.2.toNat < q.2.toNat) then p else q

/-- `r` is at least as good as `q`. -/
def Beats (r q : EReal × BitVec 32) : Prop := q.1 ≤ r.1 ∧ (q.1 = r.1 → r.2.toNat ≤ q.2.toNat)

theorem Beats.refl (r : EReal × BitVec 32) : Beats r r := ⟨le_rfl, fun _ => le_rfl⟩
theorem Beats.trans {r q p : EReal × BitVec 32} (h : Beats r q) (h' : Beats q p) : Beats r p :=
  ⟨h'.1.trans h.1, fun e => by
    have e' : q.1 = r.1 := le_antisymm h.1 (e ▸ h'.1)
    exact (h.2 e').trans (h'.2 (e.trans e'.symm))⟩

theorem better_left (p q : EReal × BitVec 32) : Beats (better p q) p := by
  unfold better
  split
  · exact Beats.refl p
  · next h =>
    obtain ⟨h1, h2⟩ := not_or.1 h
    refine ⟨not_lt.1 h1, fun e => ?_⟩
    by_contra hlt
    exact h2 ⟨e, not_le.1 hlt⟩

theorem better_right (p q : EReal × BitVec 32) : Beats (better p q) q := by
  unfold better
  split
  · next h =>
    rcases h with h | ⟨h, h'⟩
    · exact ⟨h.le, fun e => absurd e h.ne⟩
    · exact ⟨h.ge, fun _ => h'.le⟩
  · exact Beats.refl q

theorem better_mem (p q : EReal × BitVec 32) : better p q = p ∨ better p q = q := by
  unfold better
  split
  · exact .inl rfl
  · exact .inr rfl

/-- What is left at the end is one of the pairs and beats them all. -/
theorem foldl_better (l : List (EReal × BitVec 32)) (p : EReal × BitVec 32) :
    (l.foldl better p = p ∨ l.foldl better p ∈ l) ∧ Beats (l.foldl better p) p
      ∧ ∀ q ∈ l, Beats (l.foldl better p) q := by
  induction l generalizing p with
  | nil => exact ⟨.inl rfl, Beats.refl p, fun q hq => absurd hq List.not_mem_nil⟩
  | cons q l ih =>
    obtain ⟨h1, h2, h3⟩ := ih (better p q)
    rw [List.foldl_cons]
    refine ⟨?_, h2.trans (better_left p q), fun r hr => ?_⟩
    · rcases h1 with h1 | h1
      · rcases better_mem p q with e | e
        · exact .inl (h1.trans e)
        · exact .inr (by rw [h1, e]; exact List.mem_cons_self)
      · exact .inr (List.mem_cons_of_mem _ h1)
    · rcases List.mem_cons.1 hr with rfl | hr
      · exact h2.trans (better_right p r)
      · exact h3 r hr

/-- Along a list of a row's values with their places, from minus infinity at place zero, it is the row's
    largest value at its first place. -/
theorem isBest_foldl (f : ℕ → EReal) (n : ℕ) (hn : 0 < n) (hn' : n ≤ 2 ^ 32) (l : List (EReal × BitVec 32))
    (sound : ∀ q ∈ l, q.2.toNat < n ∧ q.1 = f q.2.toNat)
    (full : ∀ k, k < n → (f k, BitVec.ofNat 32 k) ∈ l) :
    IsBest f n (l.foldl better (⊥, 0#32)).1 (l.foldl better (⊥, 0#32)).2.toNat := by
  obtain ⟨h1, -, h3⟩ := foldl_better l (⊥, 0#32)
  have dom : ∀ k, k < n → Beats (l.foldl better (⊥, 0#32)) (f k, BitVec.ofNat 32 k) := fun k hk => h3 _ (full k hk)
  have word : ∀ k, k < n → (BitVec.ofNat 32 k).toNat = k := fun k hk => by
    rw [BitVec.toNat_ofNat, Nat.mod_eq_of_lt (by omega)]
  have at' : (l.foldl better (⊥, 0#32)).2.toNat < n
      ∧ f (l.foldl better (⊥, 0#32)).2.toNat = (l.foldl better (⊥, 0#32)).1 := by
    rcases h1 with h1 | h1
    · have := (dom 0 hn).1
      rw [h1] at this ⊢
      exact ⟨hn, le_bot_iff.1 this⟩
    · exact ⟨(sound _ h1).1, (sound _ h1).2.symm⟩
  exact ⟨at'.1, at'.2, fun j hj => (dom j hj).1, fun j hj hm => word j hj ▸ (dom j hj).2 hm⟩

end Cert.Sampler
-- ==== Proof.Cipher.lean ====
/- The noise of one element, as a function of its number: twenty rounds of the threefry-2x32 cipher under the key
   (0, 42), the two words of the result combined, and the word turned into a uniform and then a Gumbel variate. -/
module

public import Idealize.ShloMosaic.PureOps

@[expose] public section

noncomputable section

namespace Cert.Sampler

open Idealize.ShloMosaic

/-- A word rotated left by `r` bits, `0 < r < 32`. -/
def rot (r : Nat) (x : BitVec 32) : BitVec 32 := (x <<< BitVec.ofNat 32 r) ||| (x >>> BitVec.ofNat 32 (32 - r))
/-- One round of the cipher. -/
def mix (r : Nat) (s : BitVec 32 × BitVec 32) : BitVec 32 × BitVec 32 := (s.1 + s.2, rot r s.2 ^^^ (s.1 + s.2))
/-- A key injection: one word added to each half of the state. -/
def inject (a b : BitVec 32) (s : BitVec 32 × BitVec 32) : BitVec 32 × BitVec 32 := (s.1 + a, s.2 + b)
/-- The rounds of an even and of an odd group. -/
def even (s : BitVec 32 × BitVec 32) : BitVec 32 × BitVec 32 := mix 6 (mix 26 (mix 15 (mix 13 s)))
def odd (s : BitVec 32 × BitVec 32) : BitVec 32 × BitVec 32 := mix 24 (mix 16 (mix 29 (mix 17 s)))
/-- The third key word: the two words of the key and the cipher's constant combined. -/
def third : BitVec 32 := 466689008#32
/-- The cipher of the counter `(0, x)`. -/
def cipher (x : BitVec 32) : BitVec 32 × BitVec 32 :=
  inject third 5#32 (even (inject 42#32 (third + 4#32) (odd (inject 0#32 45#32 (even (inject third 2#32
    (odd (inject 42#32 (third + 1#32) (even (0#32, x + 42#32))))))))))
/-- The random word of the counter `x`. -/
def word (x : BitVec 32) : BitVec 32 := (cipher x).1 ^^^ (cipher x).2

variable {F : FTy → Type} [FloatOps F]

/-- The random word's upper 23 bits as a float in [0, 1), kept above zero. -/
def uniform (x : BitVec 32) : F .f32 :=
  FloatOps.maximumf (FloatOps.subf (FloatOps.ofBits .f32 ((word x >>> 9#32) ||| 1065353216#32)) (FloatOps.ofBits .f32 1065353216#32))
    (FloatOps.ofBits .f32 8388608#32)
/-- The Gumbel variate of the counter `x`. -/
def gumbel (x : BitVec 32) : F .f32 :=
  FloatOps.subf (FloatOps.ofBits .f32 0#32) (FloatOps.log (FloatOps.subf (FloatOps.ofBits .f32 0#32) (FloatOps.log (uniform x))))

end Cert.Sampler

end
-- ==== Proof.Reals.lean ====
/- The few constants of the two programs as extended reals, and the reference's uniform variate as the kernel's. -/
module

public import proofs.«01_k».proof.Proof.Cipher
public import Idealize.ShloMosaic.PureOps.Ideal.Laws
public import Idealize.ShloMosaic.Lib.Pointwise

@[expose] public section

noncomputable section

namespace Cert.Sampler

open Idealize.ShloMosaic

theorem ofBits_bottom : Ideal.ofBits .f32 0xFF800000#32 = (⊥ : EReal) := by
  simp [Ideal.ofBits, Ideal.ieee]
theorem ofBits_one : Ideal.ofBits .f32 0x3F800000#32 = (1 : EReal) := by
  simp [Ideal.ofBits, Ideal.ieee, -EReal.coe_mul]; norm_num
theorem ofBits_tiny : (0 : EReal) ≤ Ideal.ofBits .f32 0x00800000#32 := by
  simp [Ideal.ofBits, Ideal.ieee, -EReal.coe_mul]

/-- The masked logit at a row and a column. -/
def logit (x : (⟨3, ![64, 8, 100000]⟩ : Shape).Idx → EReal) (y : (⟨1, ![100000]⟩ : Shape).Idx → EReal) (r : Fin 64) (k : Fin 100000) : EReal :=
  x (ix3 r 7 k) + y (ix1 k)

/-- The score at a row and a column, minus infinity past the vocabulary's end. -/
def score (x : (⟨3, ![64, 8, 100000]⟩ : Shape).Idx → EReal) (y : (⟨1, ![100000]⟩ : Shape).Idx → EReal) (r : Fin 64) (k : ℕ) : EReal :=
  if h : k < 100000 then logit x y r ⟨k, h⟩ + gumbel (F := Ideal) (BitVec.ofNat 32 (r.val * 100000 + k)) else ⊥

end Cert.Sampler
-- ==== Proof.KernelIdeal.Search.lean ====
/- The kernel's search over the reals: the best of a block's scores, and what the two scratch buffers hold after every
   point. -/
module

public import proofs.«01_k».proof.Proof.KernelIdeal.Region
public import proofs.«01_k».proof.Proof.Best
public import proofs.«01_k».proof.Proof.Reals

@[expose] public section

set_option maxRecDepth 16384

noncomputable section

namespace Cert.KernelIdeal.Sampler

open Cert.KernelIdeal Cert.KernelIdeal.Gen Cert.Sampler
open Idealize.ShloMosaic

/-! ## One block -/

section Block
variable (i : grid0.Coords) (x0 : Vec Ideal S64x1x1x2048 .f32) (x1 : Vec Ideal S1x2048 .f32)

theorem lift_row (r : Fin 64) (k : Fin 2048) : reduces_S64x2048_S64.lift (ix1 r : S64.Idx) k = (ix2 r k : S64x2048.Idx) := by
  funext a
  fin_cases a <;> rfl

theorem blockMax_apply (j : S64x1.Idx) :
    blockMax i x0 x1 j = (Finset.univ : Finset (Fin 2048)).fold max (⊥ : EReal) (fun k => scored i x0 x1 (ix2 (j 0) k)) := by
  pointwise [blockMax, k0_pay51]
  rw [ofBits_bottom]; rfl

theorem blockMaxRow_apply (j : S64x128.Idx) : blockMaxRow i x0 x1 j = blockMax i x0 x1 (ix2 (j 0) 0) := by
  pointwise [blockMaxRow, k0_pay52]
  rfl
theorem firstMax_apply (j : S64x128.Idx) : firstMax i x0 x1 j = blockMaxRow i x0 x1 j := by
  pointwise [firstMax, k0_pay54]
  rfl
theorem firstArg_apply (j : S64x128.Idx) : firstArg i x0 x1 j = blockArgRow i x0 x1 j := by
  pointwise [firstArg, k0_pay55]
  rfl

/-- The columns where the block's largest score stands; elsewhere the largest word. -/
def places (r : Fin 64) (k : Fin 2048) : BitVec 32 :=
  if scored i x0 x1 (ix2 r k) = blockMax i x0 x1 (ix2 r 0) then BitVec.ofNat 32 ((i 0).val * 2048 + k.val) else 2147483647#32

theorem blockArgRow_apply (j : S64x128.Idx) :
    blockArgRow i x0 x1 j = (Finset.univ : Finset (Fin 2048)).fold IKind.minsi.op 2147483647#32 (places i x0 x1 (j 0)) := by
  pointwise [blockArgRow, k0_pay53]
  refine congrArg (Finset.univ.fold IKind.minsi.op 2147483647#32) (funext fun k => ?_)
  rw [col_apply]; rfl

/-- The scores of a row of the block by the number of the column. -/
def rowOf (r : Fin 64) (k : ℕ) : EReal := if h : k < 2048 then scored i x0 x1 (ix2 r ⟨k, h⟩) else ⊥

theorem rowOf_lt (r : Fin 64) (k : Fin 2048) : rowOf i x0 x1 r k.val = scored i x0 x1 (ix2 r k) := by
  unfold rowOf; rw [dif_pos k.isLt]

/-- The block's largest score and its column are the row's best. -/
theorem block_best (j : S64x128.Idx) : ∃ a, a < 2048 ∧ blockArgRow i x0 x1 j = BitVec.ofNat 32 ((i 0).val * 2048 + a)
    ∧ IsBest (rowOf i x0 x1 (j 0)) 2048 (blockMaxRow i x0 x1 j) a := by
  have hi := coord_lt i
  obtain ⟨up, k, -, hk⟩ := fold_max_bounds (Finset.univ : Finset (Fin 2048)) ⟨0, Finset.mem_univ _⟩
    (fun k => (scored i x0 x1 (ix2 (j 0) k) : EReal))
  obtain ⟨g1, g2, g3⟩ := fold_minsi_bounds (Finset.univ : Finset (Fin 2048)) (places i x0 x1 (j 0)) 2147483647#32
  have hM : blockMax i x0 x1 (ix2 (j 0) 0) = (Finset.univ : Finset (Fin 2048)).fold max (⊥ : EReal) (fun k => scored i x0 x1 (ix2 (j 0) k)) :=
    blockMax_apply i x0 x1 (ix2 (j 0) 0)
  rw [← hM] at up hk
  rw [blockMaxRow_apply, blockArgRow_apply]
  have at_best : ∀ l : Fin 2048, scored i x0 x1 (ix2 (j 0) l) = blockMax i x0 x1 (ix2 (j 0) 0) →
      places i x0 x1 (j 0) l = BitVec.ofNat 32 ((i 0).val * 2048 + l.val) := fun l hl => if_pos hl
  have toInt : ∀ l : Fin 2048, (BitVec.ofNat 32 ((i 0).val * 2048 + l.val)).toInt = ((i 0).val * 2048 + l.val : ℕ) := fun l => by
    have := l.isLt
    rw [BitVec.toInt_eq_toNat_of_lt (by rw [BitVec.toNat_ofNat]; omega), BitVec.toNat_ofNat, Nat.mod_eq_of_lt (by omega)]
  have hle : ∀ l : Fin 2048, scored i x0 x1 (ix2 (j 0) l) = blockMax i x0 x1 (ix2 (j 0) 0) →
      ((Finset.univ : Finset (Fin 2048)).fold IKind.minsi.op 2147483647#32 (places i x0 x1 (j 0))).toInt ≤ ((i 0).val * 2048 + l.val : ℕ) :=
    fun l hl => by rw [← toInt l, ← at_best l hl]; exact g3 l (Finset.mem_univ _)
  have big : (2147483647#32).toInt = 2147483647 := by decide
  have found : ∃ l : Fin 2048, scored i x0 x1 (ix2 (j 0) l) = blockMax i x0 x1 (ix2 (j 0) 0)
      ∧ (Finset.univ : Finset (Fin 2048)).fold IKind.minsi.op 2147483647#32 (places i x0 x1 (j 0)) = BitVec.ofNat 32 ((i 0).val * 2048 + l.val) := by
    have h0 := hle k hk.symm
    have hk' := k.isLt
    rcases g1 with g1 | ⟨l, -, g1⟩
    · rw [g1, big] at h0; omega
    · by_cases hl : scored i x0 x1 (ix2 (j 0) l) = blockMax i x0 x1 (ix2 (j 0) 0)
      · exact ⟨l, hl, g1.trans (at_best l hl)⟩
      · rw [g1, show places i x0 x1 (j 0) l = 2147483647#32 from if_neg hl, big] at h0; omega
  obtain ⟨l, hl, e⟩ := found
  refine ⟨l.val, l.isLt, e, l.isLt, (rowOf_lt ..).trans hl, fun n hn => ?_, fun n hn hm => ?_⟩
  · exact (rowOf_lt i x0 x1 (j 0) ⟨n, hn⟩).trans_le (up ⟨n, hn⟩ (Finset.mem_univ _))
  · have := hle ⟨n, hn⟩ ((rowOf_lt i x0 x1 (j 0) ⟨n, hn⟩).symm.trans hm)
    rw [e, toInt] at this
    dsimp only at this
    omega

theorem lane0_apply (s0 : Vec Ideal S64x128 .f32) (r : Fin 64) : lane0 s0 (ix2 r 0) = s0 (ix2 r 0) := by
  refine congrArg s0 (funext fun a => ?_)
  fin_cases a <;> exact Fin.ext (by simp [Rect.emb, Rect.unit, ix2])
theorem larger_apply (x : FVec Ideal S64x1 .f32) (y : Vec Ideal S64x1 .f32) (j : S64x128.Idx) :
    k0_pay1 x y j = FloatOps.cmpf .ogt (x (ix2 (j 0) 0)) (y (ix2 (j 0) 0)) := by
  pointwise [k0_pay1]
theorem select_larger {α : Type} (x y : EReal) (u v : α) :
    Scalar.select (FloatOps.cmpf (F := Ideal) (φ := .f32) .ogt x y) u v = if y < x then u else v := by
  rw [Ideal.cmpf_def]
  unfold Ideal.cmp Scalar.select
  by_cases h : y < x <;> simp [h]

theorem select_later {α : Type} (s0 : Vec Ideal S64x128 .f32) (u v : α) (j : S64x128.Idx) :
    Scalar.select (k0_pay1 (blockMax i x0 x1) (lane0 s0) j) u v = if s0 (ix2 (j 0) 0) < blockMaxRow i x0 x1 j then u else v := by
  have h : k0_pay1 (blockMax i x0 x1) (lane0 s0) j
      = FloatOps.cmpf (F := Ideal) (φ := .f32) .ogt (blockMaxRow i x0 x1 j) (s0 (ix2 (j 0) 0)) :=
    (larger_apply _ _ j).trans (congrArg₂ _ (blockMaxRow_apply i x0 x1 j).symm (lane0_apply s0 (j 0)))
  rw [h]
  exact select_larger _ _ u v

/-- A later point keeps the old pair unless the block's largest score is larger. -/
theorem nextMax_apply (s0 : Vec Ideal S64x128 .f32) (j : S64x128.Idx) :
    nextMax i x0 x1 s0 j = if s0 (ix2 (j 0) 0) < blockMaxRow i x0 x1 j then blockMaxRow i x0 x1 j else s0 j := by
  rw [← select_later]
  pointwise [nextMax, k0_pay2]
theorem nextArg_apply (s0 : Vec Ideal S64x128 .f32) (s1 : Vec Ideal S64x128 .i32) (j : S64x128.Idx) :
    nextArg i x0 x1 s0 s1 j = if s0 (ix2 (j 0) 0) < blockMaxRow i x0 x1 j then blockArgRow i x0 x1 j else s1 j := by
  rw [← select_later]
  pointwise [nextArg, k0_pay3]

/-- The two buffers hold, along every row, the best of its first `n` scores. -/
def Holds (f : Fin 64 → ℕ → EReal) (n : ℕ) (s0 : Vec Ideal S64x128 .f32) (s1 : Vec Ideal S64x128 .i32) : Prop :=
  ∀ j : S64x128.Idx, ∃ a, s1 j = BitVec.ofNat 32 a ∧ IsBest (f (j 0)) n (s0 j) a

variable (f : Fin 64 → ℕ → EReal)
  (hf : ∀ (r : Fin 64) (k : ℕ), k < 2048 → rowOf i x0 x1 r k = f r ((i 0).val * 2048 + k))
include hf

theorem holds_first (h0 : (i 0).val = 0) : Holds f 2048 (firstMax i x0 x1) (firstArg i x0 x1) := by
  intro j
  obtain ⟨a, -, e, hb⟩ := block_best i x0 x1 j
  rw [h0, Nat.zero_mul, Nat.zero_add] at e
  refine ⟨a, (firstArg_apply i x0 x1 j).trans e, ?_⟩
  rw [firstMax_apply]
  exact hb.congr fun k hk => by
    have := hf (j 0) k hk
    rw [h0, Nat.zero_mul, Nat.zero_add] at this
    exact this.symm

theorem holds_next (s0 : Vec Ideal S64x128 .f32) (s1 : Vec Ideal S64x128 .i32) (hs : Holds f ((i 0).val * 2048) s0 s1) :
    Holds f ((i 0).val * 2048 + 2048) (nextMax i x0 x1 s0) (nextArg i x0 x1 s0 s1) := by
  intro j
  obtain ⟨a, -, e, hb⟩ := block_best i x0 x1 j
  obtain ⟨a', e', hb'⟩ := hs j
  obtain ⟨_, -, hb''⟩ := hs (ix2 (j 0) 0)
  have lane : s0 (ix2 (j 0) 0) = s0 j := hb''.unique_value hb'
  have both := hb'.append (hb.congr (g := fun k => f (j 0) ((i 0).val * 2048 + k)) fun k hk => (hf _ k hk).symm)
  refine ⟨if s0 j < blockMaxRow i x0 x1 j then (i 0).val * 2048 + a else a', ?_, ?_⟩
  · rw [nextArg_apply, lane, e, e']
    split <;> rfl
  · rw [nextMax_apply, lane]
    exact both

end Block

/-! ## All the points -/

variable (m : (ℓ : Loc nD τ sig) → Buf (Elt Ideal) ℓ)

/-- The scratch buffers after point `n`, given the scores of a row as a function of the column. -/
theorem scr_holds (c : Dev nD) (f : Fin 64 → ℕ → EReal)
    (hf : ∀ (t : Fin cfg0.N) (r : Fin 64) (k : ℕ), k < 2048 →
      rowOf (grid0.coords t) (lblk m c t) (mblk m c t) r k = f r ((grid0.coords t 0).val * 2048 + k))
    (hc : ∀ t : Fin cfg0.N, (grid0.coords t 0).val = t.val) (n : ℕ) :
    ∀ t : Fin cfg0.N, t.val = n → Holds f (t.val * 2048 + 2048) (scr m c t.val t.isLt).1 (scr m c t.val t.isLt).2 := by
  induction n with
  | zero =>
    intro t ht
    have h := holds_first _ _ _ f (hf t) ((hc t).trans ht)
    have e : t.val * 2048 + 2048 = 2048 := by rw [ht, Nat.zero_mul, Nat.zero_add]
    rw [e, scr_first m c t ht]
    dsimp only
    exact h
  | succ n ih =>
    intro t ht
    have prev := ih ⟨t.val - 1, lt_of_le_of_lt (Nat.sub_le _ _) t.isLt⟩ (by dsimp only; omega)
    dsimp only at prev
    have e : (t.val - 1) * 2048 + 2048 = (grid0.coords t 0).val * 2048 := by have := hc t; omega
    have e' : t.val * 2048 + 2048 = (grid0.coords t 0).val * 2048 + 2048 := by rw [hc t]
    rw [e] at prev
    rw [e', scr_later m c t (by omega)]
    dsimp only
    exact holds_next _ _ _ f (hf t) _ _ prev

end Cert.KernelIdeal.Sampler
-- ==== Proof.KernelIdeal.Noise.lean ====
/- The noise of a block of `KernelIdeal`: the kernel's rounds are the cipher's, at every element. -/
module

public import proofs.«01_k».proof.Proof.KernelIdeal.Block
public import proofs.«01_k».proof.Proof.Cipher

@[expose] public section

set_option maxRecDepth 16384

noncomputable section

namespace Cert.KernelIdeal.Sampler

open Cert.KernelIdeal Cert.KernelIdeal.Gen Cert.Sampler
open Idealize.ShloMosaic

variable {F : FTy → Type} [FloatOps F]

/-- The number of the element `j` of the block at `i` among all elements, row by row. -/
def flat (i : grid0.Coords) (j : S64x2048.Idx) : BitVec 32 :=
  BitVec.ofNat 32 ((j 0).val * 100000 + ((i 0).val * 2048 + (j 1).val))

theorem start_apply (i : grid0.Coords) (j : S64x2048.Idx) : k0_pay6 i j = flat i j + 42#32 := by
  have h : k0_pay6 i j = IntOp.addi (IntOp.addi (IntOp.muli (BitVec.ofNat 32 (j 0).val) 100000#32) (k0_pay5 i j)) 42#32 := by
    pointwise [k0_pay6]
  rw [h, col_apply, flat]
  show BitVec.ofNat 32 (j 0).val * 100000#32 + BitVec.ofNat 32 _ + 42#32 = _
  congr 1
  apply BitVec.eq_of_toNat_eq
  simp only [BitVec.toNat_add, BitVec.toNat_mul, BitVec.toNat_ofNat]
  omega

/-- Eight rounds and two injections from the start, -/
theorem first_rounds (i : grid0.Coords) (j : S64x2048.Idx) :
    (eightA i j, eightB i j) = inject third 2#32 (odd (inject 42#32 (third + 1#32) (even (0#32, k0_pay6 i j)))) := by
  have h1 : (k0_pay7 i j, k0_pay8 i j) = mix 13 (0#32, k0_pay6 i j) := rfl
  have h2 : (k0_pay9 i j, k0_pay10 i j) = mix 15 (k0_pay7 i j, k0_pay8 i j) := rfl
  let p (f : IVec S64x2048 32 → IVec S64x2048 32 → IVec S64x2048 32 → IVec S64x2048 32 → IVec S64x2048 32) : BitVec 32 :=
    f (k0_pay10 i) (k0_pay11 i) (k0_pay12 i) k0_pay13 j
  have h3 : (k0_pay11 i j, p k0_pay14) = mix 26 (k0_pay9 i j, k0_pay10 i j) := rfl
  have h4 : (p k0_pay17 - p k0_pay16, p k0_pay16) = inject 42#32 (third + 1#32) (mix 6 (k0_pay11 i j, p k0_pay14)) :=
    Prod.ext (BitVec.add_sub_cancel _ _) rfl
  have h5 : (p k0_pay17, p k0_pay18) = mix 17 (p k0_pay17 - p k0_pay16, p k0_pay16) := by
    have e : p k0_pay17 - p k0_pay16 + p k0_pay16 = p k0_pay17 := BitVec.sub_add_cancel _ _
    unfold mix; dsimp only; rw [e]; rfl
  have h6 : (p k0_pay19, p k0_pay20) = mix 29 (p k0_pay17, p k0_pay18) := rfl
  have h7 : (p k0_pay21, p k0_pay22) = mix 16 (p k0_pay19, p k0_pay20) := rfl
  have h8 : (p k0_pay24, p k0_pay25) = inject third 2#32 (mix 24 (p k0_pay21, p k0_pay22)) := rfl
  show (p k0_pay24, p k0_pay25) = _
  rw [h8, h7, h6, h5, h4, h3, h2, h1]; rfl

/-- six rounds and an injection more, -/
theorem middle_rounds (i : grid0.Coords) (j : S64x2048.Idx) :
    (midA i j, midB i j) = mix 29 (mix 17 (inject 0#32 45#32 (even (eightA i j, eightB i j)))) := by
  let p (f : IVec S64x2048 32 → IVec S64x2048 32 → IVec S64x2048 32) : BitVec 32 := f (eightA i) (eightB i) j
  have h1 : (p k0_pay26, p k0_pay27) = mix 13 (eightA i j, eightB i j) := rfl
  have h2 : (p k0_pay28, p k0_pay29) = mix 15 (p k0_pay26, p k0_pay27) := rfl
  have h3 : (p k0_pay30, p k0_pay31) = mix 26 (p k0_pay28, p k0_pay29) := rfl
  have h4 : (p k0_pay34 - p k0_pay33, p k0_pay33) = inject 0#32 45#32 (mix 6 (p k0_pay30, p k0_pay31)) :=
    Prod.ext (BitVec.add_sub_cancel _ _) rfl
  have h5 : (p k0_pay34, p k0_pay35) = mix 17 (p k0_pay34 - p k0_pay33, p k0_pay33) := by
    have e : p k0_pay34 - p k0_pay33 + p k0_pay33 = p k0_pay34 := BitVec.sub_add_cancel _ _
    unfold mix; dsimp only; rw [e]; rfl
  have h6 : (p k0_pay36, p k0_pay37) = mix 29 (p k0_pay34, p k0_pay35) := rfl
  show (p k0_pay36, p k0_pay37) = _
  rw [h6, h5, h4, h3, h2, h1]; rfl

/-- and the last six rounds. -/
theorem last_rounds (i : grid0.Coords) (j : S64x2048.Idx) :
    (endA i j, endB i j) = even (inject 42#32 (third + 4#32) (mix 24 (mix 16 (midA i j, midB i j)))) := by
  let p (f : IVec S64x2048 32 → IVec S64x2048 32 → IVec S64x2048 32) : BitVec 32 := f (midA i) (midB i) j
  have h1 : (p k0_pay38, p k0_pay39) = mix 16 (midA i j, midB i j) := rfl
  have h2 : (p k0_pay42 - p k0_pay41, p k0_pay41) = inject 42#32 (third + 4#32) (mix 24 (p k0_pay38, p k0_pay39)) :=
    Prod.ext (BitVec.add_sub_cancel _ _) rfl
  have h3 : (p k0_pay42, p k0_pay43) = mix 13 (p k0_pay42 - p k0_pay41, p k0_pay41) := by
    have e : p k0_pay42 - p k0_pay41 + p k0_pay41 = p k0_pay42 := BitVec.sub_add_cancel _ _
    unfold mix; dsimp only; rw [e]; rfl
  have h4 : (p k0_pay44, p k0_pay45) = mix 15 (p k0_pay42, p k0_pay43) := rfl
  have h5 : (p k0_pay46, p k0_pay47) = mix 26 (p k0_pay44, p k0_pay45) := rfl
  have h6 : (p k0_pay48, p k0_pay49) = mix 6 (p k0_pay46, p k0_pay47) := rfl
  show (p k0_pay48, p k0_pay49) = _
  rw [h6, h5, h4, h3, h2, h1]; rfl

/-- The block's noise at an element is the Gumbel variate of the element's number. -/
theorem noise_apply (i : grid0.Coords) (j : S64x2048.Idx) : noise (F := F) i j = gumbel (flat i j) := by
  have h : cipher (flat i j) = inject third 5#32 (endA i j, endB i j) := by
    rw [last_rounds, middle_rounds, first_rounds, start_apply]; rfl
  unfold gumbel Cert.Sampler.uniform word
  rw [h]; rfl

end Cert.KernelIdeal.Sampler

end
-- ==== Proof.KernelIdeal.Value.lean ====
/- What the kernel's program leaves over the reals: the blocks as elements of the arguments, the two results. -/
module

public import proofs.«01_k».proof.Proof.KernelIdeal.Search
public import proofs.«01_k».proof.Proof.KernelIdeal.Noise
public import Idealize.ShloMosaic.Lib.Pipeline.ValueKit

@[expose] public section

set_option maxRecDepth 16384

noncomputable section

namespace Cert.KernelIdeal.Sampler

open Cert.KernelIdeal Cert.KernelIdeal.Gen Cert.Sampler
open Idealize.ShloMosaic Idealize.ShloMosaic.TcCoe Idealize.SL.Sem
open Idealize.ShloMosaic.Pipeline (Dat Cfg Window cellOf)

variable (m : (ℓ : Loc nD τ sig) → Buf (Elt Ideal) ℓ)

/-! ## The blocks -/

theorem coord_val : ∀ t : Fin cfg0.N, (grid0.coords t 0).val = t.val := by
  exact (by decide +kernel : ∀ t : Fin grid0.N, (grid0.coords t 0).val = t.val)
theorem index0 : ∀ t : Fin cfg0.N, win0_0.index t = ![0, 7, 0, t.val] := by
  exact (by decide +kernel : ∀ t : Fin grid0.N, win0_0.index t = ![0, 7, 0, t.val])
theorem index1 : ∀ t : Fin cfg0.N, win0_1.index t = ![0, t.val] := by
  exact (by decide +kernel : ∀ t : Fin grid0.N, win0_1.index t = ![0, t.val])
theorem index2 : ∀ t : Fin cfg0.N, win0_2.index t = ![0, t.val] := by
  exact (by decide +kernel : ∀ t : Fin grid0.N, win0_2.index t = ![0, t.val])
theorem index3 : ∀ t : Fin cfg0.N, win0_3.index t = ![0, 0] := by
  exact (by decide +kernel : ∀ t : Fin grid0.N, win0_3.index t = ![0, 0])

/-- The two arrays as the region finds them: the arguments, reshaped. -/
theorem entry0 (c : Dev nD) : V m c main_v0 = shapeCast S64x8x1x100000 (m ((c.tc : Thread nD τ).loc main_arg0)) shapeCasts_S64x8x100000_S64x8x1x100000 := by
  entry_read
  rfl
theorem entry1 (c : Dev nD) : V m c main_v1 = shapeCast S1x100000 (m ((c.tc : Thread nD τ).loc main_arg1)) shapeCasts_S100000_S1x100000 := by
  entry_read
  rfl
theorem cast0 {α : Type} (x : S64x8x100000.Idx → α) (i : S64x8x1x100000.Idx) :
    shapeCast S64x8x1x100000 x shapeCasts_S64x8x100000_S64x8x1x100000 i = x (ix3 (i 0) (i 1) (i 3)) := by
  refine shapeCast_apply _ _ i _ ((Shape.rowMajor_val_three _).trans (Eq.trans ?_ (Shape.rowMajor_val_four i).symm))
  have h2 : (i 2).val < 1 := (i 2).isLt
  show ((i 0).val * 8 + (i 1).val) * 100000 + (i 3).val = (((i 0).val * 8 + (i 1).val) * 1 + (i 2).val) * 100000 + (i 3).val
  omega
theorem cast1 {α : Type} (x : S100000.Idx → α) (i : S1x100000.Idx) :
    shapeCast S1x100000 x shapeCasts_S100000_S1x100000 i = x (ix1 (i 1)) := by
  refine shapeCast_apply _ _ i _ ((Shape.rowMajor_val_one _).trans (Eq.trans ?_ (Shape.rowMajor_val_two i).symm))
  have h0 : (i 0).val < 1 := (i 0).isLt
  show (i 1).val = (i 0).val * 100000 + (i 1).val
  omega
theorem entry0_apply (c : Dev nD) (i : S64x8x1x100000.Idx) :
    V m c main_v0 i = m ((c.tc : Thread nD τ).loc main_arg0) (ix3 (i 0) (i 1) (i 3)) := (congrFun (entry0 m c) i).trans (cast0 _ i)
theorem entry1_apply (c : Dev nD) (i : S1x100000.Idx) :
    V m c main_v1 i = m ((c.tc : Thread nD τ).loc main_arg1) (ix1 (i 1)) := (congrFun (entry1 m c) i).trans (cast1 _ i)

theorem lblk_apply (c : Dev nD) (t : Fin cfg0.N) (j : S64x2048.Idx) (h : inside (grid0.coords t) j)
    (k : Fin 100000) (hk : k.val = t.val * 2048 + (j 1).val) :
    lblk m c t (ix4 (j 0) 0 0 (j 1)) = m ((c.tc : Thread nD τ).loc main_arg0) (ix3 (j 0) 7 k) := by
  unfold lblk Window.fill
  rw [dif_pos (moved0 _ j h)]
  blk_simp [iblk]
  rw [entry0_apply]
  blk_ext [index0 t]
theorem mblk_apply (c : Dev nD) (t : Fin cfg0.N) (j : S64x2048.Idx) (h : inside (grid0.coords t) j)
    (k : Fin 100000) (hk : k.val = t.val * 2048 + (j 1).val) :
    mblk m c t (ix2 0 (j 1)) = m ((c.tc : Thread nD τ).loc main_arg1) (ix1 k) := by
  unfold mblk Window.fill
  rw [dif_pos (moved1 _ j h)]
  blk_simp [iblk]
  rw [entry1_apply]
  blk_ext [index1 t]

/-! ## The scores -/

theorem biased_block (c : Dev nD) (t : Fin cfg0.N) (j : S64x2048.Idx) (h : inside (grid0.coords t) j)
    (k : Fin 100000) (hk : k.val = t.val * 2048 + (j 1).val) :
    biased (lblk m c t) (mblk m c t) j
      = logit (m ((c.tc : Thread nD τ).loc main_arg0)) (m ((c.tc : Thread nD τ).loc main_arg1)) (j 0) k := by
  rw [biased_apply, lblk_apply m c t j h k hk, mblk_apply m c t j h k hk]; rfl

theorem scored_block (c : Dev nD) (t : Fin cfg0.N) (r : Fin 64) (k : ℕ) (hk : k < 2048) :
    rowOf (grid0.coords t) (lblk m c t) (mblk m c t) r k
      = score (m ((c.tc : Thread nD τ).loc main_arg0)) (m ((c.tc : Thread nD τ).loc main_arg1)) r ((grid0.coords t 0).val * 2048 + k) := by
  unfold rowOf score
  rw [dif_pos hk]
  by_cases h : (grid0.coords t 0).val * 2048 + k < 100000
  · rw [dif_pos h]
    have hi : inside (grid0.coords t) (ix2 r ⟨k, hk⟩) := h
    rw [scored_inside _ _ _ _ hi, noise_apply]
    have e := biased_block m c t (ix2 r ⟨k, hk⟩) hi ⟨_, h⟩ (congrArg (· * 2048 + k) (coord_val t))
    rw [e]; rfl
  · rw [dif_neg h]
    have hi : ¬inside (grid0.coords t) (ix2 r ⟨k, hk⟩) := by unfold inside; exact h
    rw [scored_outside _ _ _ _ hi]
    exact ofBits_bottom

/-- After the last point the scratch buffers hold the best of every row of scores. -/
theorem last_best (c : Dev nD) (t : Fin cfg0.N) (ht : t.val = 48) (j : S64x128.Idx) :
    ∃ M a, (scr m c t.val t.isLt).2 j = BitVec.ofNat 32 a
      ∧ IsBest (score (m ((c.tc : Thread nD τ).loc main_arg0)) (m ((c.tc : Thread nD τ).loc main_arg1)) (j 0)) 100000 M a := by
  obtain ⟨a, e, hb⟩ := scr_holds m c _ (scored_block m c) coord_val t.val t rfl j
  refine ⟨_, a, e, hb.cut (by omega) (by omega) fun k hk _ => ?_⟩
  unfold score; rw [dif_neg (by omega)]

/-! ## The results -/

theorem final_logits (c : Dev nD) : (dats m 0 c).arrAt 2 cfg0.N = fun i : S64x100000.Idx =>
    logit (m ((c.tc : Thread nD τ).loc main_arg0)) (m ((c.tc : Thread nD τ).loc main_arg1)) (i 0) (i 1) := by
  refine (dats m 0 c).arrAt_eq_of_covers 2 _ (by decide +kernel) fun t hf y => ?_
  have hi := inside_of_moved (grid0.coords t) _ (win0_2.moved_xinj (grid0.coords t) y)
  have hk : (win0_2.xinj (grid0.coords t) y 1).val = (y 1).val := rfl
  have hk' : t.val * 2048 + (y 1).val < 100000 := by
    have := coord_val t
    unfold inside at hi
    rw [hk, this] at hi
    exact hi
  have e := biased_block m c t _ hi ⟨t.val * 2048 + (y 1).val, hk'⟩ rfl
  blk_simp
  rw [after_2]
  refine e.trans (congrArg₂ _ (Fin.ext ?_) (Fin.ext ?_))
  · blk_simp [index2 t]
  · blk_simp [index2 t]

/-- The last point. -/
def lastPoint : Fin cfg0.N := ⟨48, by rw [show cfg0.N = 49 from N_0]; omega⟩

theorem final_args (c : Dev nD) : (dats m 0 c).arrAt 3 cfg0.N = (scr m c lastPoint.val lastPoint.isLt).2 := by
  refine (dats m 0 c).arrAt_eq_of_after_last 3 lastPoint (by decide +kernel) _ fun j => ?_
  blk_simp
  rw [after_3]

theorem tail_args (c : Dev nD) : Pipeline.afterTail₀ cfgs (dats m) 0 (V0 m) [hostOps1] c main_v4
    = fun i : S64.Idx => (scr m c lastPoint.val lastPoint.isLt).2 (ix2 (i 0) 0) := by
  have h : Pipeline.afterTail₀ cfgs (dats m) 0 (V0 m) [hostOps1] c main_v4
      = shapeCast S64 (extractStridedSlice S64x1 ![0, 0] (Pipeline.withArrays spec0 c (V0 m c)
        (fun w => (dats m 0 c).arrAt w cfg0.N) (Proc.devRef .tc (Pipeline.arrRef spec0 3))) slices_S64x128_S64x1_0_0) shapeCasts_S64x1_S64 := by
    unfold Pipeline.afterTail₀
    rfl
  rw [h, Pipeline.withArrays_arr spec0 (by decide) c, final_args]
  generalize (scr m c lastPoint.val lastPoint.isLt).2 = x
  funext i
  pointwise

/-- The run: the two results and the arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v4) = (fun i : S64.Idx => (scr m c lastPoint.val lastPoint.isLt).2 (ix2 (i 0) 0))
    ∧ r.2.mem ((c.tc : Thread nD τ).loc main_v2_0) = (fun i : S64x100000.Idx =>
      logit (m ((c.tc : Thread nD τ).loc main_arg0)) (m ((c.tc : Thread nD τ).loc main_arg1)) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨((h.1 c).2 main_v4 (Pipeline.mem_restRefs_of main_v4 (by decide) (by decide))).trans (tail_args m c),
      ((h.1 c).1 2).trans (final_logits m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩) (run_main m ρ)

end Cert.KernelIdeal.Sampler

end
-- ==== Proof.Line.lean ====
/- A straight line of host operations in which every buffer is written once, by the operation at the buffer's place:
   what the line leaves is a fixed point of each of its operations. -/
module

public import Idealize.ShloMosaic.Lib.StableHlo.RunHlo

@[expose] public section

namespace Cert.Sampler

open Idealize.ShloMosaic Idealize.ShloMosaic.StableHlo Idealize.SL.Sem

noncomputable section

variable {τ : Topo} {sig : RefSig} {Val : EltTy → Type}

/-- An operation fit to stand at place `k`: it writes only buffers of index `k`, reads only buffers of smaller index,
    and its results are a function of those alone. -/
structure Step (k : ℕ) (op : HloOp τ sig Val) : Prop where
  sub : op.bufs ⊆ tcRefs τ sig
  fresh : op.fresh = ∅
  writes : ∀ b ∈ op.writes, b.idx.val = k
  reads : ∀ F G : Valuation τ sig Val, (∀ b : DevRef τ sig, b.idx.val < k → F b = G b) → ∀ b ∈ op.writes, op.result F b = op.result G b

/-- A line whose operations stand at the places `k`, `k + 1`, … -/
def Ordered : ℕ → List (HloOp τ sig Val) → Prop
  | _, [] => True
  | k, op :: ops => Step k op ∧ Ordered (k + 1) ops

theorem Ordered.nil (k : ℕ) : Ordered k ([] : List (HloOp τ sig Val)) := trivial
theorem Ordered.cons {k : ℕ} {op : HloOp τ sig Val} {ops : List (HloOp τ sig Val)} (h : Step k op) (hs : Ordered (k + 1) ops) :
    Ordered k (op :: ops) := ⟨h, hs⟩

theorem Ordered.sub {k : ℕ} {ops : List (HloOp τ sig Val)} (h : Ordered k ops) : ops.Forall fun op => op.bufs ⊆ tcRefs τ sig := by
  induction ops generalizing k with
  | nil => trivial
  | cons op ops ih => exact (List.forall_cons _ _ _).mpr ⟨h.1.sub, ih h.2⟩

theorem Ordered.fresh {k : ℕ} {ops : List (HloOp τ sig Val)} (h : Ordered k ops) : ∀ op ∈ ops, op.fresh = ∅ := by
  induction ops generalizing k with
  | nil => exact fun _ h => absurd h List.not_mem_nil
  | cons op ops ih =>
    intro o ho
    rcases List.mem_cons.mp ho with rfl | ho
    · exact h.1.fresh
    · exact ih h.2 o ho

/-- The line leaves the buffers of smaller index alone. -/
theorem Ordered.keeps {k : ℕ} {ops : List (HloOp τ sig Val)} (h : Ordered k ops) (V : Valuation τ sig Val) {b : DevRef τ sig}
    (hb : b.idx.val < k) : after ops V b = V b := by
  induction ops generalizing k V with
  | nil => rfl
  | cons op ops ih =>
    rw [after_cons, ih h.2 _ (by omega), op.result_of_not_mem]
    exact fun hm => by have := h.1.writes b hm; omega

/-- Run again on what the line leaves, an operation of the line changes nothing. -/
def Settled (A : Valuation τ sig Val) (op : HloOp τ sig Val) : Prop := op.result A = A

theorem Ordered.settled {k : ℕ} {ops : List (HloOp τ sig Val)} (h : Ordered k ops) (V : Valuation τ sig Val) :
    ops.Forall (Settled (after ops V)) := by
  induction ops generalizing k V with
  | nil => trivial
  | cons op ops ih =>
    refine (List.forall_cons _ _ _).mpr ⟨?_, ih h.2 _⟩
    funext b
    by_cases hm : b ∈ op.writes
    · have hk := h.1.writes b hm
      have e : after ops (op.result V) b = op.result V b := h.2.keeps _ (by omega)
      rw [after_cons, e]
      refine h.1.reads _ _ (fun b' hb' => ?_) b hm
      rw [h.2.keeps _ (by omega : b'.idx.val < k + 1), op.result_of_not_mem]
      exact fun hm' => by have := h.1.writes b' hm'; omega
    · exact op.result_of_not_mem _ hm

/-! ## The builders -/

section Builders

variable {x a b c e y : Ref sig .tc} {k : ℕ}

/-- The index of a reference's buffer. -/
abbrev place (r : Ref sig .tc) : ℕ := (Proc.devRef (τ := τ) .tc r).idx.val

private theorem writes_one {op : HloOp τ sig Val} (hw : op.writes = {Proc.devRef .tc y}) (hy : place (τ := τ) y = k) :
    ∀ b ∈ op.writes, b.idx.val = k := by
  intro b hb
  rw [hw] at hb; rw [Finset.mem_singleton.mp hb]; exact hy

private theorem reads_one {op : HloOp τ sig Val} (hw : op.writes = {Proc.devRef .tc y}) {F G : Valuation τ sig Val}
    (h : op.result F (Proc.devRef .tc y) = op.result G (Proc.devRef .tc y)) : ∀ b ∈ op.writes, op.result F b = op.result G b := by
  intro b hb
  rw [hw] at hb; cases Finset.mem_singleton.mp hb; exact h

theorem Step.nullary (v : y.ty.Contents Val) (hy) (h : place (τ := τ) y = k) : Step k (StableHlo.nullary (τ := τ) y v hy) where
  sub := (nullary_bufs_sub ..)
  fresh := rfl
  writes := writes_one (nullary_writes ..) h
  reads F G _ := reads_one (nullary_writes ..) (by rw [nullary_result', nullary_result'])

theorem Step.unary (f : x.ty.Contents Val → y.ty.Contents Val) (hx hy) (h0 : place (τ := τ) x < k) (h : place (τ := τ) y = k) :
    Step k (StableHlo.unary (τ := τ) x y f hx hy) where
  sub := (unary_bufs_sub ..)
  fresh := rfl
  writes := writes_one (unary_writes ..) h
  reads F G e := reads_one (unary_writes ..) (by rw [unary_result', unary_result', e _ h0])

theorem Step.binary (f : a.ty.Contents Val → b.ty.Contents Val → y.ty.Contents Val) (ha hb hy) (h0 : place (τ := τ) a < k)
    (h1 : place (τ := τ) b < k) (h : place (τ := τ) y = k) : Step k (StableHlo.binary (τ := τ) a b y f ha hb hy) where
  sub := (binary_bufs_sub ..)
  fresh := rfl
  writes := writes_one (binary_writes ..) h
  reads F G e := reads_one (binary_writes ..) (by rw [binary_result', binary_result', e _ h0, e _ h1])

theorem Step.quaternary (f : a.ty.Contents Val → b.ty.Contents Val → c.ty.Contents Val → e.ty.Contents Val → y.ty.Contents Val)
    (ha hb hc he hy) (h0 : place (τ := τ) a < k) (h1 : place (τ := τ) b < k) (h2 : place (τ := τ) c < k) (h3 : place (τ := τ) e < k)
    (h : place (τ := τ) y = k) : Step k (StableHlo.quaternary (τ := τ) a b c e y f ha hb hc he hy) where
  sub := (quaternary_bufs_sub ..)
  fresh := rfl
  writes := writes_one (quaternary_writes ..) h
  reads F G hFG := reads_one (quaternary_writes ..)
    (by rw [quaternary_result', quaternary_result', hFG _ h0, hFG _ h1, hFG _ h2, hFG _ h3])

theorem Step.reshape (he hn hx hy) (h0 : place (τ := τ) x < k) (h : place (τ := τ) y = k) :
    Step k (StableHlo.reshape (τ := τ) (Val := Val) x y he hn hx hy) where
  sub := (reshape_bufs_sub ..)
  fresh := rfl
  writes := writes_one (reshape_writes ..) h
  reads F G e := reads_one (reshape_writes ..) (by rw [reshape_result', reshape_result', e _ h0])

end Builders

/-! ## What a settled operation says -/

section Reads

variable {A : Valuation τ sig Val} {Tx Ta Tb Tc Te Ty : BufTy}

/-- What a typed reference's buffer holds. -/
def val (A : Valuation τ sig Val) (t : TRef sig Ty) : Ty.Contents Val := t.ofBuf (A (Proc.devRef .tc t.ref))

theorem settled_nullary {y : TRef sig Ty} {v : Ty.Contents Val} (h : Settled A (TRef.nullary (τ := τ) y v)) : val A y = v := by
  unfold val
  rw [← congrFun h (Proc.devRef .tc y.ref), TRef.nullary, nullary_result']; exact TRef.ofBuf_toBuf y v
theorem settled_unary {x : TRef sig Tx} {y : TRef sig Ty} {f : Tx.Contents Val → Ty.Contents Val}
    (h : Settled A (TRef.unary (τ := τ) x y f)) : val A y = f (val A x) := by
  unfold val
  conv_lhs => rw [← congrFun h (Proc.devRef .tc y.ref), TRef.unary, unary_result']
  exact TRef.ofBuf_toBuf y _
theorem settled_binary {a : TRef sig Ta} {b : TRef sig Tb} {y : TRef sig Ty} {f : Ta.Contents Val → Tb.Contents Val → Ty.Contents Val}
    (h : Settled A (TRef.binary (τ := τ) a b y f)) : val A y = f (val A a) (val A b) := by
  unfold val
  conv_lhs => rw [← congrFun h (Proc.devRef .tc y.ref), TRef.binary, binary_result']
  exact TRef.ofBuf_toBuf y _
theorem settled_quaternary {a : TRef sig Ta} {b : TRef sig Tb} {c : TRef sig Tc} {e : TRef sig Te} {y : TRef sig Ty}
    {f : Ta.Contents Val → Tb.Contents Val → Tc.Contents Val → Te.Contents Val → Ty.Contents Val}
    (h : Settled A (TRef.quaternary (τ := τ) a b c e y f)) : val A y = f (val A a) (val A b) (val A c) (val A e) := by
  unfold val
  conv_lhs => rw [← congrFun h (Proc.devRef .tc y.ref), TRef.quaternary, quaternary_result']
  exact TRef.ofBuf_toBuf y _

theorem settled_reshape {x : TRef sig Tx} {y : TRef sig Ty} {he : Tx.elt = Ty.elt} {hn : Tx.shape.ShapeCasts Ty.shape}
    (h : Settled A (TRef.reshape (τ := τ) (Val := Val) x y he hn)) : val A y = fun i => he ▸ shapeCast Ty.shape (val A x) hn i := by
  obtain ⟨x, rfl, _⟩ := x
  obtain ⟨y, rfl, _⟩ := y
  have h' := congrFun h (Proc.devRef .tc y)
  rw [TRef.reshape, reshape_result'] at h'
  exact h'.symm

end Reads

/-! ## What settled operations of @main say -/

section PlainReads

variable {A : Valuation τ sig Val} {x a b y : Ref sig .tc}

theorem plain_nullary {v : y.ty.Contents Val} {hy} (h : Settled A (StableHlo.nullary (τ := τ) y v hy)) : A (Proc.devRef .tc y) = v := by
  rw [← congrFun h (Proc.devRef .tc y), nullary_result']
theorem plain_unary {f : x.ty.Contents Val → y.ty.Contents Val} {hx hy} (h : Settled A (StableHlo.unary (τ := τ) x y f hx hy)) :
    A (Proc.devRef .tc y) = f (A (Proc.devRef .tc x)) := by
  conv_lhs => rw [← congrFun h (Proc.devRef .tc y), unary_result']
theorem plain_binary {f : a.ty.Contents Val → b.ty.Contents Val → y.ty.Contents Val} {ha hb hy}
    (h : Settled A (StableHlo.binary (τ := τ) a b y f ha hb hy)) :
    A (Proc.devRef .tc y) = f (A (Proc.devRef .tc a)) (A (Proc.devRef .tc b)) := by
  conv_lhs => rw [← congrFun h (Proc.devRef .tc y), binary_result']

theorem plain_reshape {he hn hx hy} (h : Settled A (StableHlo.reshape (τ := τ) (Val := Val) x y he hn hx hy)) :
    A (Proc.devRef .tc y) = fun i => he ▸ shapeCast y.ty.shape (A (Proc.devRef .tc x)) hn i := by
  conv_lhs => rw [← congrFun h (Proc.devRef .tc y), reshape_result']

end PlainReads

/-! ## A program as a line -/

section Programs

variable {nD : ℕ} {Λ : Labels}

/-- The program `p` is a line over the places `k`, …, `k' - 1`, and what it leaves has the property `Q`. -/
def Line (k k' : ℕ) (p : Prog (TpuEff nD τ sig Val Λ .tc) PUnit) (Q : Valuation τ sig Val → Prop) : Prop :=
  ∃ ops : List (HloOp τ sig Val), IsSeq p ops ∧ Ordered k ops ∧ k + ops.length = k' ∧ ∀ A, ops.Forall (Settled A) → Q A

variable {k k₁ k' : ℕ} {p q : Prog (TpuEff nD τ sig Val Λ .tc) PUnit} {op : HloOp τ sig Val} {Q R : Valuation τ sig Val → Prop}

theorem Line.mono (h : Line k k' p Q) (hQ : ∀ A, Q A → R A) : Line k k' p R :=
  let ⟨ops, h1, h2, h3, h4⟩ := h
  ⟨ops, h1, h2, h3, fun A hA => hQ A (h4 A hA)⟩

theorem Line.nil (h : k = k') : Line k k' (pure ⟨⟩ : Prog (TpuEff nD τ sig Val Λ .tc) PUnit) fun _ => True :=
  ⟨[], IsSeq.nil, trivial, h, fun _ _ => trivial⟩

theorem Line.cons (hs : Step k op) (h : Line (k + 1) k' p Q) :
    Line k k' ((hlo rfl op fun _ => .ret (⟨⟩ : PUnit)) >>= fun _ => p) fun A => Settled A op ∧ Q A :=
  let ⟨ops, h1, h2, h3, h4⟩ := h
  ⟨op :: ops, IsSeq.cons h1, ⟨hs, h2⟩, by rw [List.length_cons]; omega,
    fun A hA => ⟨((List.forall_cons _ _ _).mp hA).1, h4 A ((List.forall_cons _ _ _).mp hA).2⟩⟩

theorem Line.one (hs : Step k op) : Line (nD := nD) (Λ := Λ) k (k + 1) (hlo rfl op fun _ => .ret (⟨⟩ : PUnit)) fun A => Settled A op :=
  ⟨[op], rfl, ⟨hs, trivial⟩, rfl, fun _ hA => hA⟩

theorem Ordered.append {xs ys : List (HloOp τ sig Val)} (hx : Ordered k xs) (hy : Ordered (k + xs.length) ys) : Ordered k (xs ++ ys) := by
  induction xs generalizing k with
  | nil => exact hy
  | cons x xs ih => exact ⟨hx.1, ih hx.2 (by rw [List.length_cons] at hy; rwa [Nat.add_right_comm, Nat.add_assoc])⟩

theorem Line.append (h : Line k k₁ p Q) (h' : Line k₁ k' q R) : Line k k' (p >>= fun _ => q) fun A => Q A ∧ R A := by
  obtain ⟨xs, h1, h2, h3, h4⟩ := h
  obtain ⟨ys, g1, g2, g3, g4⟩ := h'
  subst h3
  refine ⟨xs ++ ys, ?_, h2.append g2, by rw [List.length_append]; omega, fun A hA => ?_⟩
  · unfold IsSeq at h1 g1 ⊢; rw [seq_append, h1, g1]
  · rw [List.forall_append] at hA
    exact ⟨h4 A hA.1, g4 A hA.2⟩

/-- An operation at the head of a sequence that is itself continued. -/
theorem Line.step (hs : Step k op) (h : Line (k + 1) k' (p >>= fun _ => q) Q) :
    Line k k' (((hlo rfl op fun _ => .ret (⟨⟩ : PUnit)) >>= fun _ => p) >>= fun _ => q) fun A => Settled A op ∧ Q A := by
  rw [bind_assoc]; exact Line.cons hs h
theorem Line.skip (h : Line k k' q Q) : Line k k' ((pure ⟨⟩ : Prog (TpuEff nD τ sig Val Λ .tc) PUnit) >>= fun _ => q) Q := by
  rwa [pure_bind]

/-- What a line leaves, run from `V`: its property, and the buffers of smaller index as they were. -/
theorem Line.run (h : Line k k' p Q) : ∃ ops : List (HloOp τ sig Val), IsSeq p ops ∧ Ordered k ops ∧ ∀ V, Q (after ops V) :=
  let ⟨ops, h1, h2, _, h4⟩ := h
  ⟨ops, h1, h2, fun V => h4 _ (h2.settled V)⟩

end Programs

end

end Cert.Sampler
-- ==== Proof.ReferenceIdeal.Cipher.lean ====
/- The reference's block cipher: the 223 operations of its threefry function leave the cipher of Proof/Cipher.lean in
   the function's two result buffers. -/
module

public import proofs.«01_k».proof.Proof.Gen.ReferenceIdeal
public import proofs.«01_k».proof.Proof.Line
public import proofs.«01_k».proof.Proof.Cipher
public import Idealize.ShloMosaic.Lib.Claim

@[expose] public section

set_option maxRecDepth 16384

noncomputable section

namespace Cert.ReferenceIdeal.Sampler

open Cert.ReferenceIdeal Cert.Sampler
open Idealize.ShloMosaic Idealize.ShloMosaic.StableHlo Idealize.SL.Sem

variable {F : FTy → Type} [FloatOps F]

abbrev Words : Type := TRef sig ⟨S64x100000, .i32⟩
abbrev Scalar : Type := TRef sig ⟨S_, .i32⟩

/-- The two halves of the cipher's state, held by two buffers, at one element. -/
def pair (A : Valuation τ sig (Elt F)) (x0 x1 : Words) (i : S64x100000.Idx) : BitVec 32 × BitVec 32 := (val A x0 i, val A x1 i)

variable {A : Valuation τ sig (Elt F)} {R : Prop}

theorem shl_in (x : BitVec 32) {r : ℕ} (h : r < 32) : IntOp.shli .host x (BitVec.ofNat 32 r) = x <<< BitVec.ofNat 32 r := by
  have : (BitVec.ofNat 32 r).toNat < 32 := by rw [BitVec.toNat_ofNat]; exact lt_of_le_of_lt (Nat.mod_le _ _) h
  exact if_pos this
theorem shr_in (x : BitVec 32) {r : ℕ} (h : r < 32) : IntOp.shrui .host x (BitVec.ofNat 32 r) = x >>> BitVec.ofNat 32 r := by
  have : (BitVec.ofNat 32 r).toNat < 32 := by rw [BitVec.toNat_ofNat]; exact lt_of_le_of_lt (Nat.mod_le _ _) h
  exact if_pos this

/-- Nine operations are one round. -/
theorem round (r : ℕ) (hr : 0 < r ∧ r < 32) {u : S64x100000.Idx → BitVec 32 × BitVec 32} {x0 x1 s b l b' l' o t : Words} {c c' : Scalar} {hb}
    (hu : ∀ i, pair A x0 x1 i = u i)
    (H : Settled A (TRef.binary x0 x1 s addi) ∧ Settled A (TRef.nullary c (constantI S_ 32 (BitVec.ofNat 32 r))) ∧
      Settled A (TRef.unary c b (broadcastInDim S64x100000 ![] hb)) ∧ Settled A (TRef.binary x1 b l Host.shli) ∧
      Settled A (TRef.nullary c' (constantI S_ 32 (BitVec.ofNat 32 (32 - r)))) ∧
      Settled A (TRef.unary c' b' (broadcastInDim S64x100000 ![] hb)) ∧ Settled A (TRef.binary x1 b' l' Host.shrui) ∧
      Settled A (TRef.binary l l' o ori) ∧ Settled A (TRef.binary s o t xori) ∧ R) :
    (∀ i, pair A s t i = mix r (u i)) ∧ R := by
  obtain ⟨h1, h2, h3, h4, h5, h6, h7, h8, h9, hR⟩ := H
  refine ⟨fun i => ?_, hR⟩
  have e : val A t i = val A s i ^^^ (IntOp.shli .host (val A x1 i) (BitVec.ofNat 32 r) ||| IntOp.shrui .host (val A x1 i) (BitVec.ofNat 32 (32 - r))) := by
    rw [settled_binary h9, settled_binary h8, settled_binary h7, settled_binary h4, settled_unary h6, settled_nullary h5,
      settled_unary h3, settled_nullary h2]
    rfl
  have es : val A s i = val A x0 i + val A x1 i := by rw [settled_binary h1]; rfl
  rw [shl_in _ hr.2, shr_in _ (by omega)] at e
  rw [← hu i]
  refine Prod.ext es (e.trans ?_)
  rw [es, BitVec.xor_comm]; rfl

/-- Seven operations are one key injection. -/
theorem injection {a b n : BitVec 32} (w : BitVec 32) (hw : b + n = w) {u : S64x100000.Idx → BitVec 32 × BitVec 32}
    {x0 x1 ba y0 bb y1 bn y2 : Words} {ka kb c : Scalar} {hb}
    (ha : val A ka = fun _ => a) (hkb : val A kb = fun _ => b) (hu : ∀ i, pair A x0 x1 i = u i)
    (H : Settled A (TRef.unary ka ba (broadcastInDim S64x100000 ![] hb)) ∧ Settled A (TRef.binary x0 ba y0 addi) ∧
      Settled A (TRef.unary kb bb (broadcastInDim S64x100000 ![] hb)) ∧ Settled A (TRef.binary x1 bb y1 addi) ∧
      Settled A (TRef.nullary c (constantI S_ 32 n)) ∧ Settled A (TRef.unary c bn (broadcastInDim S64x100000 ![] hb)) ∧
      Settled A (TRef.binary y1 bn y2 addi) ∧ R) :
    (∀ i, pair A y0 y2 i = inject a w (u i)) ∧ R := by
  obtain ⟨h1, h2, h3, h4, h5, h6, h7, hR⟩ := H
  refine ⟨fun i => ?_, hR⟩
  have e0 : val A y0 i = val A x0 i + a := by rw [settled_binary h2, settled_unary h1, ha]; rfl
  have e2 : val A y2 i = val A x1 i + b + n := by
    rw [settled_binary h7, settled_binary h4, settled_unary h3, settled_unary h6, settled_nullary h5, hkb]; rfl
  rw [← hu i]
  refine Prod.ext e0 (e2.trans ?_)
  rw [BitVec.add_assoc, hw]; rfl

set_option maxHeartbeats 4000000 in
/-- The cipher's function, at the places 44 to 265, leaves the cipher of its counters under the key (0, 42). -/
theorem cipher_line : Line 44 266 (fn_threefry2x32.body (F := F) main_call0.v5 main_call0.v7 main_call0.v18 main_call0.v17 main_call0_call0)
    fun A => val A main_call0.v5 = (fun _ => 0#32) → val A main_call0.v7 = (fun _ => 42#32) → (∀ i, val A main_call0.v18 i = 0#32) →
      ∀ i, pair A main_call0_call0.v171 main_call0_call0.v175 i = cipher (val A main_call0.v17 i) := by
  apply Line.mono
  · unfold fn_threefry2x32.body fn_threefry2x32.body_part0 fn_threefry2x32.body_part1 fn_threefry2x32.body_part2 fn_threefry2x32.body_part3
    repeat first
      | with_reducible apply Line.step
        · first
          | exact Step.binary _ _ _ _ (by decide) (by decide) (by decide)
          | exact Step.unary _ _ _ (by decide) (by decide)
          | exact Step.nullary _ _ (by decide)
      | with_reducible apply Line.cons
        · first
          | exact Step.binary _ _ _ _ (by decide) (by decide) (by decide)
          | exact Step.unary _ _ _ (by decide) (by decide)
          | exact Step.nullary _ _ (by decide)
      | with_reducible apply Line.skip
    exact Line.nil (by decide)
  · intro A H h0 h1 hx
    obtain ⟨hv0, hc, hv1, hb0, hs0, hb1, hs1, H⟩ := H
    have hk : val A main_call0_call0.v1 = fun _ => third := by
      rw [settled_binary hv1, settled_binary hv0, settled_nullary hc, h0, h1]
      exact funext fun _ => (by decide : (0#32 ^^^ 42#32) ^^^ 466688986#32 = third)
    have u : ∀ i, pair A main_call0_call0.v3 main_call0_call0.v5 i = (0#32, val A main_call0.v17 i + 42#32) := by
      intro i
      refine Prod.ext ?_ ?_
      · show val A main_call0_call0.v3 i = _
        rw [settled_binary hs0, settled_unary hb0, h0]
        exact (congrArg (· + 0#32) (hx i)).trans rfl
      · show val A main_call0_call0.v5 i = _
        rw [settled_binary hs1, settled_unary hb1, h1]; rfl
    obtain ⟨u, H⟩ := round 13 (by decide) u H
    obtain ⟨u, H⟩ := round 15 (by decide) u H
    obtain ⟨u, H⟩ := round 26 (by decide) u H
    obtain ⟨u, H⟩ := round 6 (by decide) u H
    obtain ⟨u, H⟩ := injection (third + 1#32) (by decide) h1 hk u H
    obtain ⟨u, H⟩ := round 17 (by decide) u H
    obtain ⟨u, H⟩ := round 29 (by decide) u H
    obtain ⟨u, H⟩ := round 16 (by decide) u H
    obtain ⟨u, H⟩ := round 24 (by decide) u H
    obtain ⟨u, H⟩ := injection 2#32 (by decide) hk h0 u H
    obtain ⟨u, H⟩ := round 13 (by decide) u H
    obtain ⟨u, H⟩ := round 15 (by decide) u H
    obtain ⟨u, H⟩ := round 26 (by decide) u H
    obtain ⟨u, H⟩ := round 6 (by decide) u H
    obtain ⟨u, H⟩ := injection 45#32 (by decide) h0 h1 u H
    obtain ⟨u, H⟩ := round 17 (by decide) u H
    obtain ⟨u, H⟩ := round 29 (by decide) u H
    obtain ⟨u, H⟩ := round 16 (by decide) u H
    obtain ⟨u, H⟩ := round 24 (by decide) u H
    obtain ⟨u, H⟩ := injection (third + 4#32) (by decide) h1 hk u H
    obtain ⟨u, H⟩ := round 13 (by decide) u H
    obtain ⟨u, H⟩ := round 15 (by decide) u H
    obtain ⟨u, H⟩ := round 26 (by decide) u H
    obtain ⟨u, H⟩ := round 6 (by decide) u H
    obtain ⟨u, H⟩ := injection 5#32 (by decide) hk h0 u H
    exact u

end Cert.ReferenceIdeal.Sampler

end
-- ==== Proof.ReferenceIdeal.Uniform.lean ====
/- The reference's uniform function: what its operations leave, over the cipher of Cipher.lean. -/
module

public import proofs.«01_k».proof.Proof.ReferenceIdeal.Cipher
public import Idealize.ShloMosaic.Lib.Claim
public import Idealize.ShloMosaic.Lib.Pointwise

@[expose] public section

set_option maxRecDepth 16384

noncomputable section

namespace Cert.ReferenceIdeal.Sampler

open Cert.ReferenceIdeal Cert.Sampler
open Idealize.ShloMosaic Idealize.ShloMosaic.StableHlo Idealize.SL.Sem

variable {F : FTy → Type} [FloatOps F]

/-- The uniform variate as the reference writes it. -/
def drawn (x : BitVec 32) : F .f32 :=
  FloatOps.maximumf (FloatOps.ofBits .f32 0#32)
    (FloatOps.addf (FloatOps.mulf (FloatOps.subf (FloatOps.ofBits .f32 ((word x >>> 9#32) ||| 1065353216#32)) (FloatOps.ofBits .f32 1065353216#32))
      (FloatOps.subf (FloatOps.ofBits .f32 1065353216#32) (FloatOps.ofBits .f32 0#32))) (FloatOps.ofBits .f32 0#32))

/-- The position of an element of the row-major [64, 100000] array. -/
def spot (i : S64x100000.Idx) : ℕ := (i 0).val * 100000 + (i 1).val

set_option maxHeartbeats 4000000 in
/-- The uniform function, at the places 22 to 283, draws from the key (0, 42). -/
theorem uniform_line : Line 22 284 (fn_uniform.body (F := F) (.of main_v13) (.of main_cst_2) (.of main_cst_3) main_call0) fun A =>
    (∀ j, val A (.of main_v13 : TRef sig ⟨S2, .i32⟩) j = if (j 0).val = 0 then 0#32 else 42#32) →
    val A (.of main_cst_2 : TRef sig ⟨S_, .f32⟩) = constant S_ .f32 0x00000000#32 →
    val A (.of main_cst_3 : TRef sig ⟨S_, .f32⟩) = constant S_ .f32 0x3F800000#32 →
      ∀ i, val A (.of main_v14 : TRef sig ⟨S64x100000, .f32⟩) i = drawn (BitVec.ofNat 32 (spot i)) := by
  apply Line.mono
  · unfold fn_uniform.body
    repeat first
      | with_reducible apply Line.cons
        · first
          | exact Step.binary _ _ _ _ (by decide) (by decide) (by decide)
          | exact Step.unary _ _ _ (by decide) (by decide)
          | exact Step.nullary _ _ (by decide)
          | exact Step.reshape _ _ _ _ (by decide) (by decide)
      | with_reducible apply Line.append cipher_line
    exact Line.nil (by decide)
  · rintro A ⟨h0, h1, h2, h3, h4, h5, h6, h7, h8, h9, hc, h10, h11, hc0, h12, h13, h14, hc1, h15, h16, h17, h18, hcall, h20, hc2, h21, h22,
      hc3, h23, h24, h25, hcst, h26, h27, h28, h29, h30, h31, h32, h33, h34, -⟩ hkey hzero hone
    have k0 : val A main_call0.v5 = fun _ => 0#32 := by
      rw [settled_reshape h5, settled_unary h4]
      funext j
      exact (hkey _).trans (if_pos (by
        show 0 + (S1.reshapeEquiv _ j 0).val = 0
        rw [Nat.zero_add]
        exact Nat.lt_one_iff.mp (S1.reshapeEquiv _ j 0).isLt))
    have k1 : val A main_call0.v7 = fun _ => 42#32 := by
      rw [settled_reshape h7, settled_unary h6]
      funext j
      exact (hkey _).trans (if_neg (by
        show ¬ 1 + (S1.reshapeEquiv _ j 0).val = 0
        omega))
    have hflat : ∀ i, val A main_call0.v14 i = BitVec.ofNat 64 (spot i) := by
      intro i
      rw [settled_binary h14, settled_binary h11, settled_binary h13, settled_unary h10, settled_unary h12, settled_nullary hc,
        settled_nullary hc0, settled_nullary h8, settled_nullary h9]
      show 100000#64 * BitVec.ofNat 64 (i 0).val + 1#64 * BitVec.ofNat 64 (i 1).val = _
      rw [BitVec.one_mul, BitVec.mul_comm, spot, BitVec.ofNat_add, BitVec.ofNat_mul]
    have hspot (i : S64x100000.Idx) : spot i < 6400000 := by
      have h0 : (i 0).val < 64 := (i 0).isLt
      have h1 : (i 1).val < 100000 := (i 1).isLt
      unfold spot; omega
    have hlo : ∀ i, val A main_call0.v17 i = BitVec.ofNat 32 (spot i) := by
      intro i
      rw [settled_unary h17]
      show BitVec.setWidth 32 (val A main_call0.v14 i) = _
      rw [hflat]
      apply BitVec.eq_of_toNat_eq
      rw [BitVec.toNat_setWidth, BitVec.toNat_ofNat, BitVec.toNat_ofNat]
      have := hspot i
      omega
    have hhi : ∀ i, val A main_call0.v18 i = 0#32 := by
      intro i
      have e : val A main_call0.v16 i = 0#64 := by
        rw [settled_binary h16, settled_unary h15, settled_nullary hc1]
        show val A main_call0.v14 i >>> 32#64 = _
        rw [hflat]
        apply BitVec.eq_of_toNat_eq
        rw [BitVec.ushiftRight_eq', BitVec.toNat_ushiftRight, BitVec.toNat_ofNat, Nat.shiftRight_eq_div_pow]
        have := hspot i
        show _ / 2 ^ 32 = 0
        omega
      rw [settled_unary h18]
      show BitVec.setWidth 32 (val A main_call0.v16 i) = _
      rw [e]; rfl
    intro i
    have hw : val A main_call0.v20 i = word (BitVec.ofNat 32 (spot i)) := by
      rw [settled_binary h20]
      have hp := hcall k0 k1 hhi i
      rw [hlo] at hp
      show (pair A main_call0_call0.v171 main_call0_call0.v175 i).1 ^^^ (pair A main_call0_call0.v171 main_call0_call0.v175 i).2 = _
      rw [hp]; rfl
    have hb : val A main_call0.v25 i = FloatOps.ofBits .f32 ((word (BitVec.ofNat 32 (spot i)) >>> 9#32) ||| 1065353216#32) := by
      rw [settled_unary h25, settled_binary h24, settled_binary h22, settled_unary h21, settled_unary h23, settled_nullary hc2,
        settled_nullary hc3, ← hw]
      rfl
    show val A main_call0.v34 i = _
    have e2 : val A main_call0.v2 = fun _ => FloatOps.ofBits .f32 0#32 := by
      rw [settled_unary h2, settled_unary h0, hzero]; rfl
    have e3 : val A main_call0.v3 = fun _ => FloatOps.ofBits .f32 1065353216#32 := by
      rw [settled_unary h3, settled_unary h1, hone]; rfl
    rw [settled_binary h34, settled_binary h32, settled_binary h30, settled_binary h27, settled_unary h33, settled_unary h31,
      settled_unary h29, settled_binary h28, settled_unary h26, settled_nullary hcst, e2, e3]
    rw [drawn, ← hb]
    rfl

end Cert.ReferenceIdeal.Sampler

end
-- ==== Proof.ReferenceIdeal.Run.lean ====
/- The reference's whole line of host operations, and its run. -/
module

public import proofs.«01_k».proof.Proof.ReferenceIdeal.Uniform

@[expose] public section

set_option maxRecDepth 16384

noncomputable section

namespace Cert.ReferenceIdeal.Sampler

open Cert.ReferenceIdeal Cert.ReferenceIdeal.Facts₀ Cert.Sampler
open Idealize.ShloMosaic Idealize.ShloMosaic.StableHlo Idealize.SL.Sem

variable {F : FTy → Type} [FloatOps F]

/-- The reference's first array: the eighth slice of the logits over one, plus the mask. -/
def masked (x : S64x8x100000.Idx → F .f32) (y : S100000.Idx → F .f32) : S64x100000.Idx → F .f32 :=
  addf (Host.divf (shapeCast S64x100000 (extractStridedSlice S64x1x100000 ![0, 7, 0] x slices_S64x8x100000_S64x1x100000_0_7_0)
      shapeCasts_S64x1x100000_S64x100000) (broadcastInDim S64x100000 ![] bcast_S_S64x100000 (constant S_ .f32 0x3F800000#32)))
    (broadcastInDim S64x100000 ![0, 1] bcast_S1x100000_S64x100000_0_1 (broadcastInDim S1x100000 ![1] bcast_S100000_S1x100000_1 y))

/-- The scores the reference takes the largest of. -/
def scores (x : S64x8x100000.Idx → F .f32) (y : S100000.Idx → F .f32) : S64x100000.Idx → F .f32 :=
  addf (masked x y) (Host.negf (Host.log (Host.negf (Host.log (maximumf (fun i => drawn (BitVec.ofNat 32 (spot i)))
    (broadcastInDim S64x100000 ![] bcast_S_S64x100000 (constant S_ .f32 0x00800000#32)))))))

/-- Each row's reduction to the larger pair, its integer component. -/
def topped (x : S64x100000.Idx → F .f32) (y : S64x100000.Idx → BitVec 32) (u : S_.Idx → F .f32) (v : S_.Idx → BitVec 32) :
    S64.Idx → BitVec 32 := fun j => (Host.argReduce reducer_argmax_f32_i32 x y u v reducesTo_S64x100000_S64_d1 h_S_ j).2

/-- The column of the largest score of each row, as the reference reduces it. -/
def largest (z : S64x100000.Idx → F .f32) : S64.Idx → BitVec 32 :=
  topped z (iotaInDim S64x100000 32 1) (constant S_ .f32 0xFF800000#32) (constantI S_ 32 0#32)

set_option maxHeartbeats 4000000 in
/-- @main is a line whose results are `masked` and `largest` of `scores`. -/
theorem main_line (d : Dev nD) : Line 2 297 (main (F := F) d) fun A =>
    A (Proc.devRef .tc main_v6) = masked (A (Proc.devRef .tc main_arg0)) (A (Proc.devRef .tc main_arg1)) ∧
    A (Proc.devRef .tc main_v22) = largest (scores (A (Proc.devRef .tc main_arg0)) (A (Proc.devRef .tc main_arg1))) := by
  apply Line.mono
  · unfold main
    repeat first
      | with_reducible apply Line.cons
        · first
          | exact Step.binary _ _ _ _ (by decide) (by decide) (by decide)
          | exact Step.unary _ _ _ (by decide) (by decide)
          | exact Step.nullary _ _ (by decide)
          | exact Step.reshape _ _ _ _ (by decide) (by decide)
      | with_reducible apply Line.append uniform_line
    unfold fn_argmax.body
    with_reducible apply Line.step (Step.nullary _ _ (by decide))
    with_reducible apply Line.step (Step.nullary _ _ (by decide))
    with_reducible apply Line.step (Step.nullary _ _ (by decide))
    with_reducible apply Line.step (Step.quaternary _ _ _ _ _ _ (by decide) (by decide) (by decide) (by decide) (by decide))
    with_reducible apply Line.step (Step.quaternary _ _ _ _ _ _ (by decide) (by decide) (by decide) (by decide) (by decide))
    with_reducible apply Line.skip
    exact Line.nil (by decide)
  · rintro A ⟨h0, h1, hcst, h2, h3, h4, h5, h6, hc, hc0, h7, h8, h9, hc1, h10, h11, h12, h13, hcst2, hcst3, hunif, hcst4, h15, h16, h17, h18,
      h19, h20, h21, g0, gcst, gc, -, g11, -⟩
    have e9 : A (Proc.devRef .tc main_v9) = fun _ => 0#32 := by
      rw [plain_unary h9, plain_unary h8, plain_binary h7, plain_nullary hc, plain_nullary hc0]
      exact funext fun _ => (by decide : IntOp.shrui .host 42#32 32#32 = 0#32)
    have e12 : A (Proc.devRef .tc main_v12) = fun _ => 42#32 := by
      rw [plain_unary h12, plain_unary h11, plain_binary h10, plain_nullary hc, plain_nullary hc1]
      exact funext fun _ => (by decide : (42#32 &&& 4294967295#32) = 42#32)
    have hkey (j : S2.Idx) : val A (.of main_v13 : TRef sig ⟨S2, .i32⟩) j = if (j 0).val = 0 then 0#32 else 42#32 := by
      show A (Proc.devRef .tc main_v13) j = _
      rw [plain_binary h13, e9, e12]
      refine (concatenate_pair_apply (s₁ := S1) (s₂ := S1) (t := S2) 0 (fun _ => 0#32) (fun _ => 42#32) concatenates_S1_S1_S2_d0 j).trans ?_
      exact (dite_eq_ite ..).trans (if_congr Nat.lt_one_iff rfl rfl)
    have e14 : A (Proc.devRef .tc main_v14) = fun i => drawn (BitVec.ofNat 32 (spot i)) :=
      funext (hunif hkey (plain_nullary hcst2) (plain_nullary hcst3))
    have e6 : A (Proc.devRef .tc main_v6) = masked (A (Proc.devRef .tc main_arg0)) (A (Proc.devRef .tc main_arg1)) := by
      rw [plain_binary h6, plain_binary h3, plain_reshape h1, plain_unary h0, plain_unary h2, plain_nullary hcst, plain_unary h5,
        plain_unary h4]
      rfl
    refine ⟨e6, ?_⟩
    have e21 : A (Proc.devRef .tc main_v21) = scores (A (Proc.devRef .tc main_arg0)) (A (Proc.devRef .tc main_arg1)) := by
      rw [plain_binary h21, plain_unary h20, plain_unary h19, plain_unary h18, plain_unary h17, plain_binary h16, plain_unary h15,
        plain_nullary hcst4, e14, e6]
      rfl
    have e : val A main_call1.v1_1 = topped (val A (.of main_v21 : TRef sig ⟨S64x100000, .f32⟩)) (val A main_call1.v0)
        (val A main_call1.cst) (val A main_call1.c) :=
      settled_quaternary (Val := Elt F) (A := A) (Ta := ⟨S64x100000, .f32⟩) (Tb := ⟨S64x100000, .i32⟩) (Tc := ⟨S_, .f32⟩) (Te := ⟨S_, .i32⟩)
        (Ty := ⟨S64, .i32⟩) (a := .of main_v21) (b := main_call1.v0) (c := main_call1.cst) (e := main_call1.c) (y := main_call1.v1_1)
        (f := topped) g11
    rw [settled_nullary g0, settled_nullary gcst, settled_nullary gc] at e
    rw [← e21]
    exact e

/-- The reference's run: its two results and its arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
        = largest (scores (m ((c.tc : Thread nD τ).loc main_arg0)) (m ((c.tc : Thread nD τ).loc main_arg1)))
      ∧ r.2.mem ((c.tc : Thread nD τ).loc main_v6) = masked (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  obtain ⟨ops, hseq, hord, hQ⟩ := (main_line (F := F) 0).run
  refine θ_run_mono (run_hlo defs main (ops := ops) (fun _ => hseq) (by decide) (by decide) hord.sub hord.fresh m ρ) fun r hr c => ?_
  have k0 : after ops (launchContents m c) (Proc.devRef .tc main_arg0) = m ((c.tc : Thread nD τ).loc main_arg0) := hord.keeps _ (by decide)
  have k1 : after ops (launchContents m c) (Proc.devRef .tc main_arg1) = m ((c.tc : Thread nD τ).loc main_arg1) := hord.keeps _ (by decide)
  obtain ⟨q6, q22⟩ := hQ (launchContents m c)
  rw [k0, k1] at q6 q22
  exact ⟨(hr c _).trans q22, (hr c _).trans q6, (hr c _).trans k0, (hr c _).trans k1⟩

/-- The reference runs, leaves its arguments as they were and no semaphore raised. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (run m ρ) fun r hr => ⟨fun c => (hr c).2.2, ?_⟩
  funext s
  obtain ⟨t, s⟩ := s
  cases s with
  | reg s => exact Fin.elim0 s
  | dma s => exact Fin.elim0 s

end Cert.ReferenceIdeal.Sampler

end
-- ==== Proof.ReferenceIdeal.Value.lean ====
/- What the reference computes over the reals: its masked logits and scores at an element, and the first column of every
   row's largest score. -/
module

public import proofs.«01_k».proof.Proof.ReferenceIdeal.Run
public import proofs.«01_k».proof.Proof.Best
public import proofs.«01_k».proof.Proof.Reals
public import Idealize.ShloMosaic.Lib.Pipeline.Value

@[expose] public section

set_option maxRecDepth 16384

noncomputable section

namespace Cert.ReferenceIdeal.Sampler

open Cert.ReferenceIdeal Cert.ReferenceIdeal.Facts₀ Cert.Sampler
open Idealize.ShloMosaic Idealize.SL.Sem

/-! ## Its elements -/

/-- Scaling to the unit interval and clamping twice changes nothing of the variate clamped once. -/
theorem clamp_twice (f z o t : EReal) (hz : z = 0) (ho : o = 1) (ht : 0 ≤ t) : max (max z ((f - o) * (o - z) + z)) t = max (f - o) t := by
  rw [hz, ho, sub_zero, mul_one, add_zero, max_comm (0 : EReal), max_assoc, max_eq_right ht]
theorem clamp_drawn (x : BitVec 32) :
    FloatOps.maximumf (F := Ideal) (drawn x) (FloatOps.ofBits .f32 0x00800000#32) = uniform (F := Ideal) x :=
  clamp_twice (Ideal.ofBits .f32 ((word x >>> 9#32) ||| 1065353216#32)) _ _ _ Ideal.ofBits_zero_f32 ofBits_one ofBits_tiny

theorem negate (x : EReal) : FloatOps.subf (F := Ideal) (φ := .f32) (FloatOps.ofBits .f32 0#32) x = -x := by
  show Ideal.ofBits .f32 0#32 - x = -x
  rw [Ideal.ofBits_zero_f32, zero_sub]

theorem cast_row {α : Type} (x : S64x1x100000.Idx → α) (i : S64x100000.Idx) :
    shapeCast S64x100000 x shapeCasts_S64x1x100000_S64x100000 i = x (ix3 (i 0) 0 (i 1)) := by
  refine shapeCast_apply _ _ i _ ((Shape.rowMajor_val_three _).trans (Eq.trans ?_ (Shape.rowMajor_val_two i).symm))
  show ((i 0).val * 1 + 0) * 100000 + (i 1).val = (i 0).val * 100000 + (i 1).val
  omega

theorem one_below (x : EReal) : Ideal.div x 1 = x := by
  unfold Ideal.div
  rw [if_neg one_ne_zero, inv_one, mul_one]

theorem masked_apply (x : S64x8x100000.Idx → EReal) (y : S100000.Idx → EReal) (i : S64x100000.Idx) :
    masked (F := Ideal) x y i = logit x y (i 0) (i 1) := by
  have h1 : masked (F := Ideal) x y i = Ideal.div (shapeCast S64x100000 (extractStridedSlice S64x1x100000 ![0, 7, 0] x slices_S64x8x100000_S64x1x100000_0_7_0)
      shapeCasts_S64x1x100000_S64x100000 i) (Ideal.ofBits .f32 0x3F800000#32)
      + broadcastInDim S64x100000 ![0, 1] bcast_S1x100000_S64x100000_0_1 (broadcastInDim S1x100000 ![1] bcast_S100000_S1x100000_1 y) i := rfl
  rw [h1, cast_row, ofBits_one, one_below]
  refine congrArg₂ _ (congrArg x ?_) ?_
  · funext a
    fin_cases a
    · exact Fin.ext (Nat.zero_add (i 0).val)
    · rfl
    · exact Fin.ext (Nat.zero_add (i 1).val)
  · unfold broadcastInDim
    refine congrArg y (funext fun a => ?_)
    fin_cases a
    rfl

theorem host_log (x : EReal) : FloatOps.hostUnary (F := Ideal) (φ := .f32) .log x = FloatOps.log (F := Ideal) (φ := .f32) x := rfl
theorem host_neg (x : EReal) : FloatOps.hostNegf (F := Ideal) (φ := .f32) x = FloatOps.subf (F := Ideal) (φ := .f32) (FloatOps.ofBits .f32 0#32) x :=
  (negate x).symm

theorem scores_at {F : FTy → Type} [FloatOps F] (x : S64x8x100000.Idx → F .f32) (y : S100000.Idx → F .f32) (i : S64x100000.Idx) :
    scores x y i = FloatOps.addf (masked x y i) (FloatOps.hostNegf (FloatOps.hostUnary .log (FloatOps.hostNegf (FloatOps.hostUnary .log
      (FloatOps.maximumf (drawn (BitVec.ofNat 32 (spot i))) (FloatOps.ofBits .f32 0x00800000#32)))))) := rfl

theorem scores_apply (x : S64x8x100000.Idx → EReal) (y : S100000.Idx → EReal) (i : S64x100000.Idx) :
    scores (F := Ideal) x y i = score x y (i 0) (i 1).val := by
  have h : (i 1).val < 100000 := (i 1).isLt
  rw [scores_at, masked_apply, clamp_drawn, host_log, host_neg, host_log, host_neg]
  unfold score
  rw [dif_pos h]
  rfl

/-! ## The first column of the largest -/

/-- The reduction's comparison is the choice of the better pair, at places a signed word holds. -/
theorem reducer_better (a b : EReal × BitVec 32) (ha : a.2.toNat < 2 ^ 31) (hb : b.2.toNat < 2 ^ 31) :
    reducer_argmax_f32_i32 (F := Ideal) a b = better a b := by
  obtain ⟨u, i⟩ := a
  obtain ⟨v, j⟩ := b
  have hs : i.slt j = decide (i.toNat < j.toNat) := by
    rw [BitVec.slt_eq_decide, BitVec.toInt_eq_toNat_of_lt (by simp only at ha; omega), BitVec.toInt_eq_toNat_of_lt (by simp only at hb; omega)]
    simp only [Nat.cast_lt]
  unfold reducer_argmax_f32_i32 better
  simp only [Ideal.cmpf_def, Ideal.cmp, IntOp.ori, IntOp.andi, IntOp.cmpi, Scalar.select, hs]
  by_cases h1 : v < u
  · simp [h1, h1.ne']
  · by_cases h2 : u = v
    · by_cases h3 : i.toNat < j.toNat
      · simp [h2, h3]
      · simp [h2, h3]
    · simp [h1, h2]

theorem fold_reducer (l : List (EReal × BitVec 32)) (p : EReal × BitVec 32) (hp : p.2.toNat < 2 ^ 31) (hl : ∀ q ∈ l, q.2.toNat < 2 ^ 31) :
    l.foldl (reducer_argmax_f32_i32 (F := Ideal)) p = l.foldl better p := by
  induction l generalizing p with
  | nil => rfl
  | cons q l ih =>
    have hq := hl q List.mem_cons_self
    rw [List.foldl_cons, List.foldl_cons, reducer_better p q hp hq]
    refine ih _ ?_ fun r hr => hl r (List.mem_cons_of_mem _ hr)
    rcases better_mem p q with h | h <;> rw [h] <;> assumption

/-- A row's list of pairs holds one for every column and nothing else. -/
theorem fiber_mem (z : S64x100000.Idx → EReal) (j : S64.Idx) (q : EReal × BitVec 32) :
    q ∈ Host.argReduceFiber z (iotaInDim S64x100000 32 1) reducesTo_S64x100000_S64_d1 j ↔
      ∃ k : Fin 100000, q = (z (ix2 (j 0) k), BitVec.ofNat 32 k.val) := by
  unfold Host.argReduceFiber
  rw [List.mem_map]
  have drop (i : S64x100000.Idx) : reducesTo_S64x100000_S64_d1.drop i = j ↔ (i 0).val = (j 0).val := by
    have hd := Shape.ReducesTo.drop_apply_val_of_eq reducesTo_S64x100000_S64_d1 i 0 0 (by decide) (by decide)
    constructor
    · rintro rfl
      exact hd.symm
    · intro h
      funext a
      fin_cases a
      exact Fin.ext (hd.trans h)
  constructor
  · rintro ⟨n, hn, rfl⟩
    have h := (drop _).mp (of_decide_eq_true (List.mem_filter.mp hn).2)
    generalize S64x100000.rowMajor.symm n = i at h ⊢
    refine ⟨i 1, Prod.ext (congrArg z ?_) rfl⟩
    funext a
    fin_cases a
    · exact Fin.ext h
    · rfl
  · rintro ⟨k, rfl⟩
    refine ⟨S64x100000.rowMajor (ix2 (j 0) k), List.mem_filter.mpr ⟨List.mem_finRange _, decide_eq_true ((drop _).mpr ?_)⟩, ?_⟩
    · rw [Equiv.symm_apply_apply]
      rfl
    · rw [Equiv.symm_apply_apply]
      rfl

theorem fold_start (l : List (EReal × BitVec 32)) (p : EReal × BitVec 32) (hp : p = (⊥, 0#32)) (hl : ∀ q ∈ l, q.2.toNat < 2 ^ 31) :
    (l.foldl (reducer_argmax_f32_i32 (F := Ideal)) p).2 = (l.foldl better (⊥, 0#32)).2 := by
  subst hp
  exact congrArg Prod.snd (fold_reducer l (⊥, 0#32) (Nat.two_pow_pos 31) hl)

theorem fiber_small (z : S64x100000.Idx → EReal) (j : S64.Idx) :
    ∀ q ∈ Host.argReduceFiber z (iotaInDim S64x100000 32 1) reducesTo_S64x100000_S64_d1 j, q.2.toNat < 2 ^ 31 := by
  intro q hq
  obtain ⟨k, rfl⟩ := (fiber_mem _ _ _).mp hq
  have := k.isLt
  simp only [BitVec.toNat_ofNat]
  omega

theorem start_pair (i : S_.Idx) :
    (constant (F := Ideal) S_ .f32 0xFF800000#32 i, constantI S_ 32 0#32 i) = ((⊥, 0#32) : EReal × BitVec 32) :=
  Prod.ext ofBits_bottom rfl

/-- Over the reals a host arg-reduction is the fold along each element's list of pairs, at any shape. -/
theorem argReduce_fold {s t u : Shape} {axes : List (Fin s.rank)} (f : EReal × BitVec 32 → EReal × BitVec 32 → EReal × BitVec 32)
    (x : s.Idx → EReal) (y : s.Idx → BitVec 32) (ix : u.Idx → EReal) (iy : u.Idx → BitVec 32) (h : s.ReducesTo axes t) (hu : 0 < u.numel)
    (j : t.Idx) : Host.argReduce (F := Ideal) (φ := .f32) f x y ix iy h hu j
      = (Host.argReduceFiber x y h j).foldl f (ix (Shape.Idx.first hu), iy (Shape.Idx.first hu)) :=
  (congrFun (Ideal.argReduce_eq_reduce2 f x y ix iy h hu) j).trans (Host.reduce2_eq_foldl_fiber f x y ix iy h hu j)

theorem topped_eq {F : FTy → Type} [FloatOps F] (z : S64x100000.Idx → F .f32) (w : S64x100000.Idx → BitVec 32) (u : S_.Idx → F .f32) (v : S_.Idx → BitVec 32) :
    topped z w u v = fun j => (Host.argReduce reducer_argmax_f32_i32 z w u v reducesTo_S64x100000_S64_d1 h_S_ j).2 := rfl
theorem topped_at {F : FTy → Type} [FloatOps F] (z : S64x100000.Idx → F .f32) (w : S64x100000.Idx → BitVec 32) (u : S_.Idx → F .f32) (v : S_.Idx → BitVec 32) (j : S64.Idx) :
    topped z w u v j = (Host.argReduce reducer_argmax_f32_i32 z w u v reducesTo_S64x100000_S64_d1 h_S_ j).2 := congrFun (topped_eq z w u v) j

/-- The reduction of a row is the fold along the row's list. -/
theorem topped_fold (z : S64x100000.Idx → EReal) (w : S64x100000.Idx → BitVec 32) (u : S_.Idx → EReal) (v : S_.Idx → BitVec 32) (j : S64.Idx) :
    topped (F := Ideal) z w u v j = ((Host.argReduceFiber z w reducesTo_S64x100000_S64_d1 j).foldl (reducer_argmax_f32_i32 (F := Ideal))
      (u (Shape.Idx.first h_S_), v (Shape.Idx.first h_S_))).2 := by
  rw [topped_at, argReduce_fold]

/-- The fold is of the better pair, from minus infinity at column zero. -/
theorem largest_fold (z : S64x100000.Idx → EReal) (j : S64.Idx) : largest (F := Ideal) z j
    = ((Host.argReduceFiber z (iotaInDim S64x100000 32 1) reducesTo_S64x100000_S64_d1 j).foldl better (⊥, 0#32)).2 :=
  (topped_fold z _ _ _ j).trans (fold_start _ _ (start_pair _) (fiber_small z j))

/-- The reference's result at a row is the first column of that row's largest score. -/
theorem largest_best (x : S64x8x100000.Idx → EReal) (y : S100000.Idx → EReal) (j : S64.Idx) :
    ∃ M, IsBest (score x y (j 0)) 100000 M ((largest (F := Ideal) (scores (F := Ideal) x y) j).toNat) := by
  have hz : ∀ k : Fin 100000, scores (F := Ideal) x y (ix2 (j 0) k) = score x y (j 0) k.val := fun k => scores_apply x y (ix2 (j 0) k)
  rw [largest_fold]
  generalize scores (F := Ideal) x y = z at hz
  generalize hf : score x y (j 0) = f at hz
  have hm := fiber_mem z j
  generalize Host.argReduceFiber z (iotaInDim S64x100000 32 1) reducesTo_S64x100000_S64_d1 j = l at hm
  refine ⟨_, isBest_foldl f 100000 (Nat.succ_pos _) (by norm_num) l ?_ ?_⟩
  · intro q hq
    obtain ⟨k, rfl⟩ := (hm q).mp hq
    have hk := k.isLt
    have e : (BitVec.ofNat 32 k.val).toNat = k.val := by
      rw [BitVec.toNat_ofNat]
      omega
    dsimp only
    rw [e]
    exact ⟨hk, hz k⟩
  · intro k hk
    exact (hm _).mpr ⟨⟨k, hk⟩, Prod.ext (hz ⟨k, hk⟩).symm rfl⟩

end Cert.ReferenceIdeal.Sampler
-- ==== Proof.lean ====
/- The claim: the three programs run and leave their arguments and semaphores as they found them, and over the reals the
   kernel and the reference return the same samples and the same logits. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Region
public import proofs.«01_k».proof.Proof.KernelIdeal.Value
public import proofs.«01_k».proof.Proof.ReferenceIdeal.Value

@[expose] public section

set_option maxRecDepth 16384

noncomputable section

namespace Cert.Proof

open Idealize.ShloMosaic Idealize.SL.Sem Cert.Sampler

/-- The samples the reference computes, which the kernel's last point holds too. -/
def samples (x : (⟨3, ![64, 8, 100000]⟩ : Shape).Idx → EReal) (y : (⟨1, ![100000]⟩ : Shape).Idx → EReal) :
    (⟨1, ![64]⟩ : Shape).Idx → BitVec 32 :=
  Cert.ReferenceIdeal.Sampler.largest (F := Ideal) (Cert.ReferenceIdeal.Sampler.scores (F := Ideal) x y)

/-- A word holding a row's first column of the largest score is the reference's sample of that row. -/
theorem samples_unique (x : (⟨3, ![64, 8, 100000]⟩ : Shape).Idx → EReal) (y : (⟨1, ![100000]⟩ : Shape).Idx → EReal)
    (i : (⟨1, ![64]⟩ : Shape).Idx) (w : BitVec 32)
    (h : ∃ M a, w = BitVec.ofNat 32 a ∧ IsBest (score x y (i 0)) 100000 M a) : w = samples x y i := by
  obtain ⟨M, a, rfl, h⟩ := h
  obtain ⟨M', h'⟩ := Cert.ReferenceIdeal.Sampler.largest_best x y i
  change IsBest (score x y (i 0)) 100000 M' ((samples x y i).toNat) at h'
  generalize samples x y i = s at h' ⊢
  rw [h.unique h', BitVec.ofNat_toNat, BitVec.setWidth_eq]

/-- From equal arguments the kernel and the reference return equal arrays over the reals. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => samples (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => fun i : (⟨2, ![64, 100000]⟩ : Shape).Idx =>
      logit (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (i 0) (i 1), ?_, ?_⟩
  · refine (θ_run _ _ _).mono (fun r hr c => ?_) (Cert.KernelIdeal.Sampler.run m g)
    obtain ⟨h0, h1, h2⟩ := hr c
    refine ⟨h0.trans (funext fun i => ?_), h1, h2⟩
    exact samples_unique _ _ i _ (Cert.KernelIdeal.Sampler.last_best m c Cert.KernelIdeal.Sampler.lastPoint rfl (ix2 (i 0) 0))
  · refine (θ_run _ _ _).mono (fun r hr c => ?_) (Cert.ReferenceIdeal.Sampler.run (F := Ideal) m' g')
    obtain ⟨h0, h1, h2⟩ := hr c
    rw [(hm c).1, (hm c).2] at h0 h1
    exact ⟨h0, h1.trans (funext fun i => Cert.ReferenceIdeal.Sampler.masked_apply _ _ i), h2⟩

theorem claim : Cert.Claim :=
  ⟨Cert.Kernel.Gen.facts, Cert.KernelIdeal.Gen.facts, Cert.ReferenceIdeal.Gen.facts,
    fun m g _ => Cert.Kernel.Sampler.frame m g,
    fun m g _ => Cert.KernelIdeal.Sampler.frame m g,
    fun m g _ => Cert.ReferenceIdeal.Sampler.frame m g,
    trivial, algebraic⟩

end Cert.Proof

end
